-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S2x8192x512 : Shape := ⟨3, ![2, 8192, 512]⟩
abbrev S2x8448x512 : Shape := ⟨3, ![2, 8448, 512]⟩
abbrev S_ : Shape := ⟨0, ![]⟩
abbrev S128 : Shape := ⟨1, ![128]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8448x512 : S_.BroadcastsInDim S2x8448x512 (![] : Fin 0 → Fin S2x8448x512.rank)
  reducesTo_S2x8448x512_S_d0_1_2 : S2x8448x512.ReducesTo [0, 1, 2] S_

variable [Facts]

def fn {F : FTy → Type} [FloatOps F] (main_arg0 : FVec F S2x8192x512 .f32) (main_arg1 : FVec F S2x8448x512 .f32) (main_arg2 : FVec F S2x8448x512 .f32) (main_arg3 : FVec F S_ .f32) (main_arg4 : FVec F S128 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8448x512 .f32 := Host.absf main_arg1
  let main_cst_0 : FVec F S_ .f32 := constant S_ .f32 0x7F800000#32
  let main_v5 : FVec F S2x8448x512 .f32 := broadcastInDim S2x8448x512 ![] bcast_S_S2x8448x512 main_cst_0
  let main_v6 : IVec S2x8448x512 1 := cmpf .olt main_v4 main_v5
  let main_c_1 : IVec S_ 1 := constantI S_ 1 1#1
  let main_v7 : IVec S_ 1 := (fun x v => Host.reduce IntOp.andi x v reducesTo_S2x8448x512_S_d0_1_2 h_S_) main_v6 main_c_1
  let main_v8 : IVec S_ 1 := andi main_v3 main_v7
  let main_v9 : FVec F S2x8448x512 .f32 := Host.absf main_arg2
  let main_cst_2 : FVec F S_ .f32 := constant S_ .f32 0x7F800000#32
  let main_v10 : FVec F S2x8448x512 .f32 := broadcastInDim S2x8448x512 ![] bcast_S_S2x8448x512 main_cst_2
  let main_v11 : IVec S2x8448x512 1 := cmpf .olt main_v9 main_v10
  let main_c_3 : IVec S_ 1 := constantI S_ 1 1#1
  let main_v12 : IVec S_ 1 := (fun x v => Host.reduce IntOp.andi x v reducesTo_S2x8448x512_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_v16 : IVec S_ 1 := andi main_v13 main_v15
  main_v16
-- ==== Pre_finite3.lean ====
abbrev S16896x1024 : Shape := ⟨2, ![16896, 1024]⟩
abbrev S16896x512 : Shape := ⟨2, ![16896, 512]⟩
abbrev S2x8448x512 : Shape := ⟨3, ![2, 8448, 512]⟩
abbrev S16896x10752 : Shape := ⟨2, ![16896, 10752]⟩
abbrev S2x6144 : Shape := ⟨2, ![2, 6144]⟩
abbrev S6144 : Shape := ⟨1, ![6144]⟩
abbrev S4x512x1024 : Shape := ⟨3, ![4, 512, 1024]⟩
abbrev S1024x1024 : Shape := ⟨2, ![1024, 1024]⟩
abbrev S64 : Shape := ⟨1, ![64]⟩
abbrev S1024 : Shape := ⟨1, ![1024]⟩
abbrev S_ : Shape := ⟨0, ![]⟩

class Facts : Prop where
  bcast_S_S2x8448x512 : S_.BroadcastsInDim S2x8448x512 (![] : Fin 0 → Fin S2x8448x512.rank)
  reducesTo_S2x8448x512_S_d0_1_2 : S2x8448x512.ReducesTo [0, 1, 2] S_
  h_S_ : 0 < S_.numel

variable [Facts]

def fn {F : FTy → Type} [FloatOps F] (main_arg0 : FVec F S16896x1024 .f32) (main_arg1 : FVec F S16896x512 .f32) (main_arg2 : FVec F S2x8448x512 .f32) (main_arg3 : FVec F S2x8448x512 .f32) (main_arg4 : FVec F S16896x512 .f32) (main_arg5 : FVec F S16896x512 .f32) (main_arg6 : FVec F S16896x10752 .bf16) (main_arg7 : FVec F S2x6144 .f32) (main_arg8 : FVec F S6144 .f32) (main_arg9 : FVec F S4x512x1024 .f32) (main_arg10 : FVec F S1024x1024 .f32) (main_arg11 : FVec F S64 .f32) (main_arg12 : FVec F S1024 .f32) (main_arg13 : FVec F S1024 .f32) : IVec S_ 1 :=
  let main_v0 : FVec F S2x8448x512 .f32 := Host.absf main_arg2
  let main_cst : FVec F S_ .f32 := constant S_ .f32 0x7F800000#32
  let main_v1 : FVec F S2x8448x512 .f32 := broadcastInDim S2x8448x512 ![] bcast_S_S2x8448x512 main_cst
  let main_v2 : IVec S2x8448x512 1 := cmpf .olt main_v0 main_v1
  let main_c : IVec S_ 1 := constantI S_ 1 1#1
  let main_v3 : IVec S_ 1 := (fun x v => Host.reduce IntOp.andi x v reducesTo_S2x8448x512_S_d0_1_2 h_S_) main_v2 main_c
  let main_v4 : FVec F S2x8448x512 .f32 := Host.absf main_arg3
  let main_cst_0 : FVec F S_ .f32 := constant S_ .f32 0x7F800000#32
  let main_v5 : FVec F S2x8448x512 .f32 := broadcastInDim S2x8448x512 ![] bcast_S_S2x8448x512 main_cst_0
  let main_v6 : IVec S2x8448x512 1 := cmpf .olt main_v4 main_v5
  let main_c_1 : IVec S_ 1 := constantI S_ 1 1#1
  let main_v7 : IVec S_ 1 := (fun x v => Host.reduce IntOp.andi x v reducesTo_S2x8448x512_S_d0_1_2 h_S_) main_v6 main_c_1
  let main_v8 : IVec S_ 1 := andi main_v3 main_v7
  main_v8
-- ==== Kernel.lean ====
abbrev S2x8192x512 : Shape := ⟨3, ![2, 8192, 512]⟩
abbrev S2x8448x512 : Shape := ⟨3, ![2, 8448, 512]⟩
abbrev S_ : Shape := ⟨0, ![]⟩
abbrev S128 : Shape := ⟨1, ![128]⟩
abbrev S2x8448x4x2x64 : Shape := ⟨5, ![2, 8448, 4, 2, 64]⟩
abbrev S2x4x2x8448x64 : Shape := ⟨5, ![2, 4, 2, 8448, 64]⟩
abbrev S2x11x768x4x128 : Shape := ⟨5, ![2, 11, 768, 4, 128]⟩
abbrev S2x4x11x128x768 : Shape := ⟨5, ![2, 4, 11, 128, 768]⟩
abbrev S1 : Shape := ⟨1, ![1]⟩
abbrev S128x1 : Shape := ⟨2, ![128, 1]⟩
abbrev S1x1024x128 : Shape := ⟨3, ![1, 1024, 128]⟩
abbrev S1x1x2x8448x64 : Shape := ⟨5, ![1, 1, 2, 8448, 64]⟩
abbrev S1x1x11x128x768 : Shape := ⟨5, ![1, 1, 11, 128, 768]⟩
abbrev S2x2x768x1024 : Shape := ⟨4, ![2, 2, 768, 1024]⟩
abbrev S1024x128 : Shape := ⟨2, ![1024, 128]⟩
abbrev S1024x64 : Shape := ⟨2, ![1024, 64]⟩
abbrev S1x1024 : Shape := ⟨2, ![1, 1024]⟩
abbrev S128x1024 : Shape := ⟨2, ![128, 1024]⟩
abbrev S1x1x1x768x64 : Shape := ⟨5, ![1, 1, 1, 768, 64]⟩
abbrev S768x64 : Shape := ⟨2, ![768, 64]⟩
abbrev S768x1024 : Shape := ⟨2, ![768, 1024]⟩
abbrev S1x1x768x1024 : Shape := ⟨4, ![1, 1, 768, 1024]⟩
abbrev S96x8x1024 : Shape := ⟨3, ![96, 8, 1024]⟩
abbrev S8x1024 : Shape := ⟨2, ![8, 1024]⟩
abbrev S1024 : Shape := ⟨1, ![1024]⟩
abbrev S1x1x32x1024 : Shape := ⟨4, ![1, 1, 32, 1024]⟩
abbrev S32x1024 : Shape := ⟨2, ![32, 1024]⟩
abbrev S4x8x1024 : Shape := ⟨3, ![4, 8, 1024]⟩
abbrev S1x1x1x128x768 : Shape := ⟨5, ![1, 1, 1, 128, 768]⟩
abbrev S128x768 : Shape := ⟨2, ![128, 768]⟩
abbrev S768x2048 : Shape := ⟨2, ![768, 2048]⟩
abbrev S128x2048 : Shape := ⟨2, ![128, 2048]⟩

abbrev nBuf : Space → Nat
  | .hbm => 14
  | .vmem => 10
  | .smem => 1
  | _ => 0

abbrev bufTy : (tb : Table) → Fin (tcTables nBuf tb) → BufTy
  | .hbm, ⟨0, _⟩ => ⟨S2x8192x512, .f32⟩
  | .hbm, ⟨1, _⟩ => ⟨S2x8448x512, .f32⟩
  | .hbm, ⟨2, _⟩ => ⟨S2x8448x512, .f32⟩
  | .hbm, ⟨3, _⟩ => ⟨S_, .f32⟩
  | .hbm, ⟨4, _⟩ => ⟨S128, .f32⟩
  | .hbm, ⟨5, _⟩ => ⟨S2x8448x512, .bf16⟩
  | .hbm, ⟨6, _⟩ => ⟨S2x8448x4x2x64, .bf16⟩
  | .hbm, ⟨7, _⟩ => ⟨S2x4x2x8448x64, .bf16⟩
  | .hbm, ⟨8, _⟩ => ⟨S2x8448x512, .bf16⟩
  | .hbm, ⟨9, _⟩ => ⟨S2x11x768x4x128, .bf16⟩
  | .hbm, ⟨10, _⟩ => ⟨S2x4x11x128x768, .bf16⟩
  | .hbm, ⟨11, _⟩ => ⟨S1, .f32⟩
  | .hbm, ⟨12, _⟩ => ⟨S128x1, .f32⟩
  | .hbm, ⟨13, _⟩ => ⟨S2x8192x512, .f32⟩
  | .local _ .vmem, ⟨0, _⟩ => ⟨S1x1024x128, .f32⟩
  | .local _ .vmem, ⟨1, _⟩ => ⟨S1x1024x128, .f32⟩
  | .local _ .vmem, ⟨2, _⟩ => ⟨S1x1x2x8448x64, .bf16⟩
  | .local _ .vmem, ⟨3, _⟩ => ⟨S1x1x2x8448x64, .bf16⟩
  | .local _ .vmem, ⟨4, _⟩ => ⟨S1x1x11x128x768, .bf16⟩
  | .local _ .vmem, ⟨5, _⟩ => ⟨S1x1x11x128x768, .bf16⟩
  | .local _ .vmem, ⟨6, _⟩ => ⟨S128x1, .f32⟩
  | .local _ .vmem, ⟨7, _⟩ => ⟨S1x1024x128, .f32⟩
  | .local _ .vmem, ⟨8, _⟩ => ⟨S1x1024x128, .f32⟩
  | .local _ .vmem, ⟨9, _⟩ => ⟨S2x2x768x1024, .f32⟩
  | .local _ .smem, ⟨0, _⟩ => ⟨S1, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32 : BitVec 32 := 0#32
  c0_i32
@[reducible] def k0_t1_loop : Scf.Loop 32 :=
  let c0_i32_27 : BitVec 32 := 0#32
  let c5_i32 : BitVec 32 := 5#32
  let v32 : BitVec 32 := Scalar.addi c0_i32_27 c5_i32
  let c1_i32 : BitVec 32 := 1#32
  ⟨c0_i32_27, v32, c1_i32⟩
def k0_mult2 (k0_t1 : Fin k0_t1_loop.trips) : BitVec 32 :=
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let c1_i32_265 : BitVec 32 := 1#32
  let v525 : BitVec 32 := Scalar.addi v524 c1_i32_265
  let c768_i32 : BitVec 32 := 768#32
  let v526 : BitVec 32 := Scalar.muli v525 c768_i32
  v526
def k0_off1 (k0_t1 : Fin k0_t1_loop.trips) (c1_i32_265 : BitVec 32) : Fin 5 → Nat :=
  let c0_266 : Index := 0#32
  let c0_267 : Index := 0#32
  let c0_268 : Index := 0#32
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let v525 : BitVec 32 := Scalar.addi v524 c1_i32_265
  let c768_i32 : BitVec 32 := 768#32
  let v526 : BitVec 32 := Scalar.muli v525 c768_i32
  let v527 : BitVec 32 := v526
  let v528 : Index := Scalar.indexCast v527
  let c0_269 : Index := 0#32
  ![0, 0, 0, v528.toNat, 0]
def k0_off2 (k0_t1 : Fin k0_t1_loop.trips) (c1_i32_265 : BitVec 32) : Fin 5 → Nat :=
  let c0_276 : Index := 0#32
  let c0_277 : Index := 0#32
  let c1_278 : Index := 1#32
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let v525 : BitVec 32 := Scalar.addi v524 c1_i32_265
  let c768_i32 : BitVec 32 := 768#32
  let v526 : BitVec 32 := Scalar.muli v525 c768_i32
  let v527 : BitVec 32 := v526
  let v537 : Index := Scalar.indexCast v527
  let c0_279 : Index := 0#32
  ![0, 0, 1, v537.toNat, 0]
def k0_off3 (k0_t1 : Fin k0_t1_loop.trips) : Fin 5 → Nat :=
  let c0_530 : Index := 0#32
  let c0_531 : Index := 0#32
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let v1000 : Index := Scalar.indexCast v524
  let c0_532 : Index := 0#32
  let c0_533 : Index := 0#32
  ![0, 0, v1000.toNat, 0, 0]
def k0_mult3 (k0_t1 : Fin k0_t1_loop.trips) : BitVec 32 :=
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let c2_i32_535 : BitVec 32 := 2#32
  let v1009 : BitVec 32 := Scalar.addi v524 c2_i32_535
  let c768_i32_536 : BitVec 32 := 768#32
  let v1010 : BitVec 32 := Scalar.muli v1009 c768_i32_536
  v1010
def k0_off4 (k0_t1 : Fin k0_t1_loop.trips) : Fin 5 → Nat :=
  let c0_802 : Index := 0#32
  let c0_803 : Index := 0#32
  let c2_i32 : BitVec 32 := 2#32
  let c0_i32_27 : BitVec 32 := 0#32
  let c1_i32 : BitVec 32 := 1#32
  let arg10 : BitVec 32 := Scf.iv c0_i32_27 c1_i32 k0_t1
  let v524 : BitVec 32 := Scalar.muli c2_i32 arg10
  let c1_i32_557 : BitVec 32 := 1#32
  let v1030 : BitVec 32 := Scalar.addi v524 c1_i32_557
  let v1485 : Index := Scalar.indexCast v1030
  let c0_804 : Index := 0#32
  let c0_805 : Index := 0#32
  ![0, 0, v1485.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x11x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S2x8192x512 : Shape := ⟨3, ![2, 8192, 512]⟩
abbrev S2x8448x512 : Shape := ⟨3, ![2, 8448, 512]⟩
abbrev S_ : Shape := ⟨0, ![]⟩
abbrev S128 : Shape := ⟨1, ![128]⟩
abbrev S2x8192x4x2x64 : Shape := ⟨5, ![2, 8192, 4, 2, 64]⟩
abbrev S2x8448x4x2x64 : Shape := ⟨5, ![2, 8448, 4, 2, 64]⟩
abbrev S2x8448x4x128 : Shape := ⟨4, ![2, 8448, 4, 128]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8448x512, .f32⟩
  | .hbm, ⟨2, _⟩ => ⟨S2x8448x512, .f32⟩
  | .hbm, ⟨3, _⟩ => ⟨S_, .f32⟩
  | .hbm, ⟨4, _⟩ => ⟨S128, .f32⟩
  | .hbm, ⟨5, _⟩ => ⟨S2x8192x4x2x64, .f32⟩
  | .hbm, ⟨6, _⟩ => ⟨S2x8448x4x2x64, .f32⟩
  | .hbm, ⟨7, _⟩ => ⟨S2x8448x4x128, .f32⟩
  | .hbm, ⟨8, _⟩ => ⟨S2x4x2x8192x8448, .f32⟩
  | .hbm, ⟨9, _⟩ => ⟨S_, .f32⟩
  | .hbm, ⟨10, _⟩ => ⟨S2x4x2x8192x8448, .f32⟩
  | .hbm, ⟨11, _⟩ => ⟨S2x4x2x8192x8448, .f32⟩
  | .hbm, ⟨12, _⟩ => ⟨S_, .f32⟩
  | .hbm, ⟨13, _⟩ => ⟨S2x4x2x8192, .f32⟩
  | .hbm, ⟨14, _⟩ => ⟨S_, .f32⟩
  | .hbm, ⟨15, _⟩ => ⟨S2x4x2x8192, .f32⟩
  | .hbm, ⟨16, _⟩ => ⟨S2x4x2x8192, .f32⟩
  | .hbm, ⟨17, _⟩ => ⟨S2x4x2x8192x1, .f32⟩
  | .hbm, ⟨18, _⟩ => ⟨S2x4x2x8192x8448, .f32⟩
  | .hbm, ⟨19, _⟩ => ⟨S2x4x2x8192x8448, .f32⟩
  | .hbm, ⟨20, _⟩ => ⟨S2x4x2x8192x8448, .f32⟩
  | .hbm, ⟨21, _⟩ => ⟨S_, .f32⟩
  | .hbm, ⟨22, _⟩ => ⟨S2x4x2x8192, .f32⟩
  | .hbm, ⟨23, _⟩ => ⟨S2x4x2x8192x1, .f32⟩
  | .hbm, ⟨24, _⟩ => ⟨S2x4x2x8192x8448, .f32⟩
  | .hbm, ⟨25, _⟩ => ⟨S2x4x2x8192x8448, .f32⟩
  | .hbm, ⟨26, _⟩ => ⟨S2x4x1x8192x8448, .f32⟩
  | .hbm, ⟨27, _⟩ => ⟨S2x4x8192x8448, .f32⟩
  | .hbm, ⟨28, _⟩ => ⟨S2x4x1x8192x8448, .f32⟩
  | .hbm, ⟨29, _⟩ => ⟨S2x4x8192x8448, .f32⟩
  | .hbm, ⟨30, _⟩ => ⟨S2x4x8192x8448, .f32⟩
  | .hbm, ⟨31, _⟩ => ⟨S2x4x8192x8448, .f32⟩
  | .hbm, ⟨32, _⟩ => ⟨S2x4x8192x8448, .f32⟩
  | .hbm, ⟨33, _⟩ => ⟨S2x4x128x8192, .f32⟩
  | .hbm, ⟨34, _⟩ => ⟨S2x8192x4x128, .f32⟩
  | .hbm, ⟨35, _⟩ => ⟨S2x8192x4x128, .f32⟩
  | .hbm, ⟨36, _⟩ => ⟨S_, .f32⟩
  | .hbm, ⟨37, _⟩ => ⟨S2x8192x4, .f32⟩
  | .hbm, ⟨38, _⟩ => ⟨S2x8192x4x1, .f32⟩
  | .hbm, ⟨39, _⟩ => ⟨S_, .f32⟩
  | .hbm, ⟨40, _⟩ => ⟨S2x8192x4x1, .f32⟩
  | .hbm, ⟨41, _⟩ => ⟨S2x8192x4x1, .f32⟩
  | .hbm, ⟨42, _⟩ => ⟨S_, .f32⟩
  | .hbm, ⟨43, _⟩ => ⟨S2x8192x4x1, .f32⟩
  | .hbm, ⟨44, _⟩ => ⟨S2x8192x4x1, .f32⟩
  | .hbm, ⟨45, _⟩ => ⟨S2x8192x4x1, .f32⟩
  | .hbm, ⟨46, _⟩ => ⟨S2x8192x4x128, .f32⟩
  | .hbm, ⟨47, _⟩ => ⟨S2x8192x4x128, .f32⟩
  | .hbm, ⟨48, _⟩ => ⟨S1x1x1x128, .f32⟩
  | .hbm, ⟨49, _⟩ => ⟨S2x8192x4x128, .f32⟩
  | .hbm, ⟨50, _⟩ => ⟨S2x8192x4x128, .f32⟩
  | .hbm, ⟨51, _⟩ => ⟨S_, .f32⟩
  | .hbm, ⟨52, _⟩ => ⟨S2x8192x4x128, .f32⟩
  | .hbm, ⟨53, _⟩ => ⟨S2x8192x4x128, .f32⟩
  | .hbm, ⟨54, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024x10784 : Shape := ⟨2, ![1024, 10784]⟩
abbrev S6 : Shape := ⟨1, ![6]⟩
abbrev S16384x1024 : Shape := ⟨2, ![16384, 1024]⟩
abbrev S512x1024 : Shape := ⟨2, ![512, 1024]⟩
abbrev S16896x1024 : Shape := ⟨2, ![16896, 1024]⟩
abbrev S6x1 : Shape := ⟨2, ![6, 1]⟩
abbrev S2x6x1024 : Shape := ⟨3, ![2, 6, 1024]⟩
abbrev S1x6x1 : Shape := ⟨3, ![1, 6, 1]⟩
abbrev S1x6x1024 : Shape := ⟨3, ![1, 6, 1024]⟩
abbrev S2x32x6x1024 : Shape := ⟨4, ![2, 32, 6, 1024]⟩
abbrev S64x6x1024 : Shape := ⟨3, ![64, 6, 1024]⟩
abbrev S1x2x6x1024 : Shape := ⟨4, ![1, 2, 6, 1024]⟩
abbrev S66x6x1024 : Shape := ⟨3, ![66, 6, 1024]⟩
abbrev S1024x1536 : Shape := ⟨2, ![1024, 1536]⟩
abbrev S1024x512 : Shape := ⟨2, ![1024, 512]⟩
abbrev S1024x16 : Shape := ⟨2, ![1024, 16]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S1024x10752 : Shape := ⟨2, ![1024, 10752]⟩
abbrev S16896x10752 : Shape := ⟨2, ![16896, 10752]⟩
abbrev S16896x128 : Shape := ⟨2, ![16896, 128]⟩
abbrev S1536x1024 : Shape := ⟨2, ![1536, 1024]⟩
abbrev S6x6x1024 : Shape := ⟨3, ![6, 6, 1024]⟩
abbrev S1024x768 : Shape := ⟨2, ![1024, 768]⟩
abbrev S1536x768 : Shape := ⟨2, ![1536, 768]⟩
abbrev S1536x128 : Shape := ⟨2, ![1536, 128]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S256x128 : Shape := ⟨2, ![256, 128]⟩

abbrev nBuf : Space → Nat
  | .hbm => 40
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024x10784, .f32⟩
  | .hbm, ⟨5, _⟩ => ⟨S6, .f32⟩
  | .hbm, ⟨6, _⟩ => ⟨S16384x1024, .f32⟩
  | .hbm, ⟨7, _⟩ => ⟨S512x1024, .f32⟩
  | .hbm, ⟨8, _⟩ => ⟨S16896x1024, .f32⟩
  | .hbm, ⟨9, _⟩ => ⟨S6x1, .f32⟩
  | .hbm, ⟨10, _⟩ => ⟨S2x6x1024, .f32⟩
  | .hbm, ⟨11, _⟩ => ⟨S1x6x1, .f32⟩
  | .hbm, ⟨12, _⟩ => ⟨S2x6x1024, .f32⟩
  | .hbm, ⟨13, _⟩ => ⟨S2x6x1024, .f32⟩
  | .hbm, ⟨14, _⟩ => ⟨S1x6x1024, .f32⟩
  | .hbm, ⟨15, _⟩ => ⟨S1x6x1, .f32⟩
  | .hbm, ⟨16, _⟩ => ⟨S1x6x1024, .f32⟩
  | .hbm, ⟨17, _⟩ => ⟨S1x6x1024, .f32⟩
  | .hbm, ⟨18, _⟩ => ⟨S2x32x6x1024, .f32⟩
  | .hbm, ⟨19, _⟩ => ⟨S64x6x1024, .f32⟩
  | .hbm, ⟨20, _⟩ => ⟨S1x2x6x1024, .f32⟩
  | .hbm, ⟨21, _⟩ => ⟨S2x6x1024, .f32⟩
  | .hbm, ⟨22, _⟩ => ⟨S66x6x1024, .f32⟩
  | .hbm, ⟨23, _⟩ => ⟨S1024x1536, .f32⟩
  | .hbm, ⟨24, _⟩ => ⟨S1024x1536, .f32⟩
  | .hbm, ⟨25, _⟩ => ⟨S1024x512, .f32⟩
  | .hbm, ⟨26, _⟩ => ⟨S1024x16, .f32⟩
  | .hbm, ⟨27, _⟩ => ⟨S1024x16, .f32⟩
  | .hbm, ⟨28, _⟩ => ⟨S1024x1536, .f32⟩
  | .hbm, ⟨29, _⟩ => ⟨S1024x1536, .f32⟩
  | .hbm, ⟨30, _⟩ => ⟨S1024x4096, .f32⟩
  | .hbm, ⟨31, _⟩ => ⟨S1024x32, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x10752, .f32⟩
  | .hbm, ⟨36, _⟩ => ⟨S1024x10752, .bf16⟩
  | .hbm, ⟨37, _⟩ => ⟨S1024x128, .bf16⟩
  | .hbm, ⟨38, _⟩ => ⟨S16896x10752, .bf16⟩
  | .hbm, ⟨39, _⟩ => ⟨S16896x128, .f32⟩
  | .local _ .vmem, ⟨0, _⟩ => ⟨S1536x1024, .f32⟩
  | .local _ .vmem, ⟨1, _⟩ => ⟨S1536x1024, .f32⟩
  | .local _ .vmem, ⟨2, _⟩ => ⟨S6x6x1024, .f32⟩
  | .local _ .vmem, ⟨3, _⟩ => ⟨S6x6x1024, .f32⟩
  | .local _ .vmem, ⟨4, _⟩ => ⟨S1024x768, .bf16⟩
  | .local _ .vmem, ⟨5, _⟩ => ⟨S1024x768, .bf16⟩
  | .local _ .vmem, ⟨6, _⟩ => ⟨S1024x128, .bf16⟩
  | .local _ .vmem, ⟨7, _⟩ => ⟨S1536x768, .bf16⟩
  | .local _ .vmem, ⟨8, _⟩ => ⟨S1536x768, .bf16⟩
  | .local _ .vmem, ⟨9, _⟩ => ⟨S1536x128, .f32⟩
  | .local _ .vmem, ⟨10, _⟩ => ⟨S1536x128, .f32⟩
  | .local _ .vmem, ⟨11, _⟩ => ⟨S1536x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1536x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024x10784 : Shape := ⟨2, ![1024, 10784]⟩
abbrev S2x1x6144 : Shape := ⟨3, ![2, 1, 6144]⟩
abbrev S2x1x1024 : Shape := ⟨3, ![2, 1, 1024]⟩
abbrev S1x1x6144 : Shape := ⟨3, ![1, 1, 6144]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x8192x10784 : Shape := ⟨3, ![2, 8192, 10784]⟩
abbrev S2x256 : Shape := ⟨2, ![2, 256]⟩
abbrev S2x256x1 : Shape := ⟨3, ![2, 256, 1]⟩
abbrev S2x256x10784 : Shape := ⟨3, ![2, 256, 10784]⟩
abbrev S16384x10784 : Shape := ⟨2, ![16384, 10784]⟩
abbrev S512x10784 : Shape := ⟨2, ![512, 10784]⟩
abbrev S16896x10784 : Shape := ⟨2, ![16896, 10784]⟩
abbrev S16896x1536 : Shape := ⟨2, ![16896, 1536]⟩
abbrev S16896x512 : Shape := ⟨2, ![16896, 512]⟩
abbrev S16896x16 : Shape := ⟨2, ![16896, 16]⟩
abbrev S16896x4096 : Shape := ⟨2, ![16896, 4096]⟩
abbrev S16896x10752 : Shape := ⟨2, ![16896, 10752]⟩
abbrev S16896x96 : Shape := ⟨2, ![16896, 96]⟩
abbrev S16896x128 : Shape := ⟨2, ![16896, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024x10784, .f32⟩
  | .hbm, ⟨5, _⟩ => ⟨S2x1x6144, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1x1x6144, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x10784, .f32⟩
  | .hbm, ⟨50, _⟩ => ⟨S_, .f32⟩
  | .hbm, ⟨51, _⟩ => ⟨S2x256, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S_, .f32⟩
  | .hbm, ⟨60, _⟩ => ⟨S2x256, .f32⟩
  | .hbm, ⟨61, _⟩ => ⟨S2x256x1, .f32⟩
  | .hbm, ⟨62, _⟩ => ⟨S_, .f32⟩
  | .hbm, ⟨63, _⟩ => ⟨S2x256x1, .f32⟩
  | .hbm, ⟨64, _⟩ => ⟨S2x256x1, .f32⟩
  | .hbm, ⟨65, _⟩ => ⟨S2x256x1024, .f32⟩
  | .hbm, ⟨66, _⟩ => ⟨S2x256x1024, .f32⟩
  | .hbm, ⟨67, _⟩ => ⟨S_, .f32⟩
  | .hbm, ⟨68, _⟩ => ⟨S2x256x1, .f32⟩
  | .hbm, ⟨69, _⟩ => ⟨S2x256x1, .f32⟩
  | .hbm, ⟨70, _⟩ => ⟨S2x256x1, .f32⟩
  | .hbm, ⟨71, _⟩ => ⟨S2x256x1024, .f32⟩
  | .hbm, ⟨72, _⟩ => ⟨S2x256x1024, .f32⟩
  | .hbm, ⟨73, _⟩ => ⟨S_, .f32⟩
  | .hbm, ⟨74, _⟩ => ⟨S1x1x1024, .f32⟩
  | .hbm, ⟨75, _⟩ => ⟨S1x1x1024, .f32⟩
  | .hbm, ⟨76, _⟩ => ⟨S2x256x1024, .f32⟩
  | .hbm, ⟨77, _⟩ => ⟨S2x256x1024, .f32⟩
  | .hbm, ⟨78, _⟩ => ⟨S2x256x1024, .f32⟩
  | .hbm, ⟨79, _⟩ => ⟨S2x256x1024, .f32⟩
  | .hbm, ⟨80, _⟩ => ⟨S2x256x10784, .f32⟩
  | .hbm, ⟨81, _⟩ => ⟨S16384x10784, .f32⟩
  | .hbm, ⟨82, _⟩ => ⟨S512x10784, .f32⟩
  | .hbm, ⟨83, _⟩ => ⟨S16896x10784, .f32⟩
  | .hbm, ⟨84, _⟩ => ⟨S16896x1536, .f32⟩
  | .hbm, ⟨85, _⟩ => ⟨S16896x1536, .f32⟩
  | .hbm, ⟨86, _⟩ => ⟨S16896x512, .f32⟩
  | .hbm, ⟨87, _⟩ => ⟨S16896x16, .f32⟩
  | .hbm, ⟨88, _⟩ => ⟨S16896x16, .f32⟩
  | .hbm, ⟨89, _⟩ => ⟨S16896x1536, .f32⟩
  | .hbm, ⟨90, _⟩ => ⟨S16896x1536, .f32⟩
  | .hbm, ⟨91, _⟩ => ⟨S16896x4096, .f32⟩
  | .hbm, ⟨92, _⟩ => ⟨S16896x10752, .f32⟩
  | .hbm, ⟨93, _⟩ => ⟨S_, .f32⟩
  | .hbm, ⟨94, _⟩ => ⟨S16896x96, .f32⟩
  | .hbm, ⟨95, _⟩ => ⟨S16896x128, .f32⟩
  | .hbm, ⟨96, _⟩ => ⟨S16896x10752, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel3.lean ====
abbrev S16896x1024 : Shape := ⟨2, ![16896, 1024]⟩
abbrev S16896x512 : Shape := ⟨2, ![16896, 512]⟩
abbrev S2x8448x512 : Shape := ⟨3, ![2, 8448, 512]⟩
abbrev S16896x10752 : Shape := ⟨2, ![16896, 10752]⟩
abbrev S2x6144 : Shape := ⟨2, ![2, 6144]⟩
abbrev S6144 : Shape := ⟨1, ![6144]⟩
abbrev S4x512x1024 : Shape := ⟨3, ![4, 512, 1024]⟩
abbrev S1024x1024 : Shape := ⟨2, ![1024, 1024]⟩
abbrev S64 : Shape := ⟨1, ![64]⟩
abbrev S1024 : Shape := ⟨1, ![1024]⟩
abbrev S6 : Shape := ⟨1, ![6]⟩
abbrev S6x1 : Shape := ⟨2, ![6, 1]⟩
abbrev S2x6x1024 : Shape := ⟨3, ![2, 6, 1024]⟩
abbrev S1x6x1 : Shape := ⟨3, ![1, 6, 1]⟩
abbrev S1x6x1024 : Shape := ⟨3, ![1, 6, 1024]⟩
abbrev S2x32x6x1024 : Shape := ⟨4, ![2, 32, 6, 1024]⟩
abbrev S64x6x1024 : Shape := ⟨3, ![64, 6, 1024]⟩
abbrev S1x2x6x1024 : Shape := ⟨4, ![1, 2, 6, 1024]⟩
abbrev S66x6x1024 : Shape := ⟨3, ![66, 6, 1024]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S1x1024 : Shape := ⟨2, ![1, 1024]⟩
abbrev S256x1024 : Shape := ⟨2, ![256, 1024]⟩
abbrev S256x512 : Shape := ⟨2, ![256, 512]⟩
abbrev S1x256x512 : Shape := ⟨3, ![1, 256, 512]⟩
abbrev S256x4096 : Shape := ⟨2, ![256, 4096]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 82
  | .vmem => 26
  | .smem => 0
  | _ => 0

abbrev bufTy : (tb : Table) → Fin (tcTables nBuf tb) → BufTy
  | .hbm, ⟨0, _⟩ => ⟨S16896x1024, .f32⟩
  | .hbm, ⟨1, _⟩ => ⟨S16896x512, .f32⟩
  | .hbm, ⟨2, _⟩ => ⟨S2x8448x512, .f32⟩
  | .hbm, ⟨3, _⟩ => ⟨S2x8448x512, .f32⟩
  | .hbm, ⟨4, _⟩ => ⟨S16896x512, .f32⟩
  | .hbm, ⟨5, _⟩ => ⟨S16896x512, .f32⟩
  | .hbm, ⟨6, _⟩ => ⟨S16896x10752, .bf16⟩
  | .hbm, ⟨7, _⟩ => ⟨S2x6144, .f32⟩
  | .hbm, ⟨8, _⟩ => ⟨S6144, .f32⟩
  | .hbm, ⟨9, _⟩ => ⟨S4x512x1024, .f32⟩
  | .hbm, ⟨10, _⟩ => ⟨S1024x1024, .f32⟩
  | .hbm, ⟨11, _⟩ => ⟨S64, .f32⟩
  | .hbm, ⟨12, _⟩ => ⟨S1024, .f32⟩
  | .hbm, ⟨13, _⟩ => ⟨S1024, .f32⟩
  | .hbm, ⟨14, _⟩ => ⟨S6, .f32⟩
  | .hbm, ⟨15, _⟩ => ⟨S6x1, .f32⟩
  | .hbm, ⟨16, _⟩ => ⟨S2x6x1024, .f32⟩
  | .hbm, ⟨17, _⟩ => ⟨S1x6x1, .f32⟩
  | .hbm, ⟨18, _⟩ => ⟨S2x6x1024, .f32⟩
  | .hbm, ⟨19, _⟩ => ⟨S2x6x1024, .f32⟩
  | .hbm, ⟨20, _⟩ => ⟨S1x6x1024, .f32⟩
  | .hbm, ⟨21, _⟩ => ⟨S1x6x1, .f32⟩
  | .hbm, ⟨22, _⟩ => ⟨S1x6x1024, .f32⟩
  | .hbm, ⟨23, _⟩ => ⟨S1x6x1024, .f32⟩
  | .hbm, ⟨24, _⟩ => ⟨S2x32x6x1024, .f32⟩
  | .hbm, ⟨25, _⟩ => ⟨S64x6x1024, .f32⟩
  | .hbm, ⟨26, _⟩ => ⟨S1x2x6x1024, .f32⟩
  | .hbm, ⟨27, _⟩ => ⟨S2x6x1024, .f32⟩
  | .hbm, ⟨28, _⟩ => ⟨S66x6x1024, .f32⟩
  | .hbm, ⟨29, _⟩ => ⟨S4x512x1024, .bf16⟩
  | .hbm, ⟨30, _⟩ => ⟨S1024x1024, .bf16⟩
  | .hbm, ⟨31, _⟩ => ⟨S512, .i32⟩
  | .hbm, ⟨32, _⟩ => ⟨S512x1, .i32⟩
  | .hbm, ⟨33, _⟩ => ⟨S_, .i32⟩
  | .hbm, ⟨34, _⟩ => ⟨S_, .i32⟩
  | .hbm, ⟨35, _⟩ => ⟨S512x1, .i32⟩
  | .hbm, ⟨36, _⟩ => ⟨S512x1, .i32⟩
  | .hbm, ⟨37, _⟩ => ⟨S512x1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S512x1, .i32⟩
  | .hbm, ⟨42, _⟩ => ⟨S512x1, .i32⟩
  | .hbm, ⟨43, _⟩ => ⟨S_, .i32⟩
  | .hbm, ⟨44, _⟩ => ⟨S512x1, .i32⟩
  | .hbm, ⟨45, _⟩ => ⟨S512x1, .i1⟩
  | .hbm, ⟨46, _⟩ => ⟨S512x1, .i1⟩
  | .hbm, ⟨47, _⟩ => ⟨S_, .i32⟩
  | .hbm, ⟨48, _⟩ => ⟨S512x1, .i32⟩
  | .hbm, ⟨49, _⟩ => ⟨S512x1, .i32⟩
  | .hbm, ⟨50, _⟩ => ⟨S512x1, .i32⟩
  | .hbm, ⟨51, _⟩ => ⟨S512, .i32⟩
  | .hbm, ⟨52, _⟩ => ⟨S1x512, .i32⟩
  | .hbm, ⟨53, _⟩ => ⟨S_, .i32⟩
  | .hbm, ⟨54, _⟩ => ⟨S_, .i32⟩
  | .hbm, ⟨55, _⟩ => ⟨S1x512, .i32⟩
  | .hbm, ⟨56, _⟩ => ⟨S1x512, .i32⟩
  | .hbm, ⟨57, _⟩ => ⟨S1x512, .i32⟩
  | .hbm, ⟨58, _⟩ => ⟨S_, .i32⟩
  | .hbm, ⟨59, _⟩ => ⟨S1x512, .i32⟩
  | .hbm, ⟨60, _⟩ => ⟨S1x512, .i1⟩
  | .hbm, ⟨61, _⟩ => ⟨S1x512, .i32⟩
  | .hbm, ⟨62, _⟩ => ⟨S1x512, .i32⟩
  | .hbm, ⟨63, _⟩ => ⟨S_, .i32⟩
  | .hbm, ⟨64, _⟩ => ⟨S1x512, .i32⟩
  | .hbm, ⟨65, _⟩ => ⟨S1x512, .i1⟩
  | .hbm, ⟨66, _⟩ => ⟨S1x512, .i1⟩
  | .hbm, ⟨67, _⟩ => ⟨S_, .i32⟩
  | .hbm, ⟨68, _⟩ => ⟨S1x512, .i32⟩
  | .hbm, ⟨69, _⟩ => ⟨S1x512, .i32⟩
  | .hbm, ⟨70, _⟩ => ⟨S1x512, .i32⟩
  | .hbm, ⟨71, _⟩ => ⟨S512x512, .i32⟩
  | .hbm, ⟨72, _⟩ => ⟨S512x512, .i32⟩
  | .hbm, ⟨73, _⟩ => ⟨S512x512, .i1⟩
  | .hbm, ⟨74, _⟩ => ⟨S512x512, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S1x1024, .f32⟩
  | .hbm, ⟨80, _⟩ => ⟨S1x1024, .f32⟩
  | .hbm, ⟨81, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x4096, .bf16⟩
  | .local _ .vmem, ⟨13, _⟩ => ⟨S256x4096, .bf16⟩
  | .local _ .vmem, ⟨14, _⟩ => ⟨S256x512, .bf16⟩
  | .local _ .vmem, ⟨15, _⟩ => ⟨S256x512, .bf16⟩
  | .local _ .vmem, ⟨16, _⟩ => ⟨S1x6x1024, .f32⟩
  | .local _ .vmem, ⟨17, _⟩ => ⟨S1x6x1024, .f32⟩
  | .local _ .vmem, ⟨18, _⟩ => ⟨S4x512x1024, .bf16⟩
  | .local _ .vmem, ⟨19, _⟩ => ⟨S1024x1024, .bf16⟩
  | .local _ .vmem, ⟨20, _⟩ => ⟨S1x512, .f32⟩
  | .local _ .vmem, ⟨21, _⟩ => ⟨S512x512, .bf16⟩
  | .local _ .vmem, ⟨22, _⟩ => ⟨S1x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 32 := Scalar.subi arg0 c64_i32
  let c64_i32_0 : BitVec 32 := 64#32
  let v1 : BitVec 1 := Scalar.cmpi .slt arg0 c64_i32_0
  let c32_i32 : BitVec 32 := 32#32
  let v2 : BitVec 32 := Scalar.divsi arg0 c32_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi arg0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v0 c1_i32_5
  let c0_i32_6 : BitVec 32 := 0#32
  let v20 : BitVec 1 := Scalar.cmpi .sgt v0 c0_i32_6
  let v21 : BitVec 32 := Scalar.extui v20
  let c0_i32_7 : BitVec 32 := 0#32
  let v22 : BitVec 1 := Scalar.cmpi .slt v0 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v0 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 32 := Scalar.select v1 v18 v35
  let c64_i32_12 : BitVec 32 := 64#32
  let v37 : BitVec 1 := Scalar.cmpi .slt arg0 c64_i32_12
  let c32_i32_13 : BitVec 32 := 32#32
  let c0_i32_14 : BitVec 32 := 0#32
  let v38 : BitVec 1 := Scalar.cmpi .eq c32_i32_13 c0_i32_14
  let c1_i32_15 : BitVec 32 := 1#32
  let v39 : BitVec 32 := Scalar.select v38 c1_i32_15 c32_i32_13
  let v40 : BitVec 32 := Scalar.remsi arg0 v39
  let c0_i32_16 : BitVec 32 := 0#32
  let v41 : BitVec 1 := Scalar.cmpi .ne v40 c0_i32_16
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let v45 : BitVec 1 := Scalar.andi v44 v41
  let v46 : BitVec 32 := Scalar.addi v40 v39
  let v47 : BitVec 32 := Scalar.select v45 v46 v40
  let c1_i32_19 : BitVec 32 := 1#32
  let v48 : BitVec 32 := Scalar.addi c1_i32_19 v47
  let c1_i32_20 : BitVec 32 := 1#32
  let c0_i32_21 : BitVec 32 := 0#32
  let v49 : BitVec 1 := Scalar.cmpi .eq c1_i32_20 c0_i32_21
  let c1_i32_22 : BitVec 32 := 1#32
  let v50 : BitVec 32 := Scalar.select v49 c1_i32_22 c1_i32_20
  let v51 : BitVec 32 := Scalar.remsi v0 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.select v37 v48 v58
  let c0_i32_26 : BitVec 32 := 0#32
  let c0_i32_27 : BitVec 32 := 0#32
  ![v36.toNat, v59.toNat, c0_i32_26.toNat]

def cc0_transform_3 (i : grid0.Coords) : Fin 3 → Nat :=
  let arg0 : BitVec 32 := BitVec.ofNat 32 (i 0).val
  let c64_i32 : BitVec 32 := 64#32
  let v0 : BitVec 32 := Scalar.subi arg0 c64_i32
  let c64_i32_0 : BitVec 32 := 64#32
  let v1 : BitVec 1 := Scalar.cmpi .slt arg0 c64_i32_0
  let c32_i32 : BitVec 32 := 32#32
  let v2 : BitVec 32 := Scalar.divsi arg0 c32_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi arg0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v0 c1_i32_5
  let c0_i32_6 : BitVec 32 := 0#32
  let v20 : BitVec 1 := Scalar.cmpi .sgt v0 c0_i32_6
  let v21 : BitVec 32 := Scalar.extui v20
  let c0_i32_7 : BitVec 32 := 0#32
  let v22 : BitVec 1 := Scalar.cmpi .slt v0 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v0 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 32 := Scalar.select v1 v18 v35
  let c64_i32_12 : BitVec 32 := 64#32
  let v37 : BitVec 1 := Scalar.cmpi .slt arg0 c64_i32_12
  let c32_i32_13 : BitVec 32 := 32#32
  let c0_i32_14 : BitVec 32 := 0#32
  let v38 : BitVec 1 := Scalar.cmpi .eq c32_i32_13 c0_i32_14
  let c1_i32_15 : BitVec 32 := 1#32
  let v39 : BitVec 32 := Scalar.select v38 c1_i32_15 c32_i32_13
  let v40 : BitVec 32 := Scalar.remsi arg0 v39
  let c0_i32_16 : BitVec 32 := 0#32
  let v41 : BitVec 1 := Scalar.cmpi .ne v40 c0_i32_16
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let v45 : BitVec 1 := Scalar.andi v44 v41
  let v46 : BitVec 32 := Scalar.addi v40 v39
  let v47 : BitVec 32 := Scalar.select v45 v46 v40
  let c1_i32_19 : BitVec 32 := 1#32
  let v48 : BitVec 32 := Scalar.addi c1_i32_19 v47
  let c1_i32_20 : BitVec 32 := 1#32
  let c0_i32_21 : BitVec 32 := 0#32
  let v49 : BitVec 1 := Scalar.cmpi .eq c1_i32_20 c0_i32_21
  let c1_i32_22 : BitVec 32 := 1#32
  let v50 : BitVec 32 := Scalar.select v49 c1_i32_22 c1_i32_20
  let v51 : BitVec 32 := Scalar.remsi v0 v50
  let c0_i32_23 : BitVec 32 := 0#32
  let v52 : BitVec 1 := Scalar.cmpi .ne v51 c0_i32_23
  let c0_i32_24 : BitVec 32 := 0#32
  let v53 : BitVec 1 := Scalar.cmpi .slt v51 c0_i32_24
  let c0_i32_25 : BitVec 32 := 0#32
  let v54 : BitVec 1 := Scalar.cmpi .slt v50 c0_i32_25
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.select v37 v48 v58
  let c0_i32_26 : BitVec 32 := 0#32
  let c0_i32_27 : BitVec 32 := 0#32
  ![v36.toNat, v59.toNat, c0_i32_26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16896x1024 : Shape := ⟨2, ![16896, 1024]⟩
abbrev S16896x512 : Shape := ⟨2, ![16896, 512]⟩
abbrev S2x8448x512 : Shape := ⟨3, ![2, 8448, 512]⟩
abbrev S16896x10752 : Shape := ⟨2, ![16896, 10752]⟩
abbrev S2x6144 : Shape := ⟨2, ![2, 6144]⟩
abbrev S6144 : Shape := ⟨1, ![6144]⟩
abbrev S4x512x1024 : Shape := ⟨3, ![4, 512, 1024]⟩
abbrev S1024x1024 : Shape := ⟨2, ![1024, 1024]⟩
abbrev S64 : Shape := ⟨1, ![64]⟩
abbrev S1024 : Shape := ⟨1, ![1024]⟩
abbrev S16896x4096 : Shape := ⟨2, ![16896, 4096]⟩
abbrev S16896x1536 : Shape := ⟨2, ![16896, 1536]⟩
abbrev S2x8448x8x64 : Shape := ⟨4, ![2, 8448, 8, 64]⟩
abbrev S_ : Shape := ⟨0, ![]⟩
abbrev S2x8448x8 : Shape := ⟨3, ![2, 8448, 8]⟩
abbrev S2x8448x8x1 : Shape := ⟨4, ![2, 8448, 8, 1]⟩
abbrev S1x1x1x64 : Shape := ⟨4, ![1, 1, 1, 64]⟩
abbrev S2x8192x8x64 : Shape := ⟨4, ![2, 8192, 8, 64]⟩
abbrev S16384x8x64 : Shape := ⟨3, ![16384, 8, 64]⟩
abbrev S2x256x8x64 : Shape := ⟨4, ![2, 256, 8, 64]⟩
abbrev S512x8x64 : Shape := ⟨3, ![512, 8, 64]⟩
abbrev S16896x8x64 : Shape := ⟨3, ![16896, 8, 64]⟩
abbrev S16896x1x512 : Shape := ⟨3, ![16896, 1, 512]⟩
abbrev S16896x4x512 : Shape := ⟨3, ![16896, 4, 512]⟩
abbrev S4x1024x16896 : Shape := ⟨3, ![4, 1024, 16896]⟩
abbrev S16896x4x1024 : Shape := ⟨3, ![16896, 4, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S1x1024 : Shape := ⟨2, ![1, 1024]⟩
abbrev S512x1024 : Shape := ⟨2, ![512, 1024]⟩
abbrev S16896 : Shape := ⟨1, ![16896]⟩
abbrev S16896x1 : Shape := ⟨2, ![16896, 1]⟩

abbrev nBuf : Space → Nat
  | .hbm => 118
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .f32⟩
  | .hbm, ⟨2, _⟩ => ⟨S2x8448x512, .f32⟩
  | .hbm, ⟨3, _⟩ => ⟨S2x8448x512, .f32⟩
  | .hbm, ⟨4, _⟩ => ⟨S16896x512, .f32⟩
  | .hbm, ⟨5, _⟩ => ⟨S16896x512, .f32⟩
  | .hbm, ⟨6, _⟩ => ⟨S16896x10752, .bf16⟩
  | .hbm, ⟨7, _⟩ => ⟨S2x6144, .f32⟩
  | .hbm, ⟨8, _⟩ => ⟨S6144, .f32⟩
  | .hbm, ⟨9, _⟩ => ⟨S4x512x1024, .f32⟩
  | .hbm, ⟨10, _⟩ => ⟨S1024x1024, .f32⟩
  | .hbm, ⟨11, _⟩ => ⟨S64, .f32⟩
  | .hbm, ⟨12, _⟩ => ⟨S1024, .f32⟩
  | .hbm, ⟨13, _⟩ => ⟨S1024, .f32⟩
  | .hbm, ⟨14, _⟩ => ⟨S16896x10752, .f32⟩
  | .hbm, ⟨15, _⟩ => ⟨S16896x4096, .f32⟩
  | .hbm, ⟨16, _⟩ => ⟨S16896x1536, .f32⟩
  | .hbm, ⟨17, _⟩ => ⟨S16896x1536, .f32⟩
  | .hbm, ⟨18, _⟩ => ⟨S16896x512, .f32⟩
  | .hbm, ⟨19, _⟩ => ⟨S16896x1536, .f32⟩
  | .hbm, ⟨20, _⟩ => ⟨S16896x1536, .f32⟩
  | .hbm, ⟨21, _⟩ => ⟨S2x8448x512, .f32⟩
  | .hbm, ⟨22, _⟩ => ⟨S2x8448x8x64, .f32⟩
  | .hbm, ⟨23, _⟩ => ⟨S2x8448x8x64, .f32⟩
  | .hbm, ⟨24, _⟩ => ⟨S_, .f32⟩
  | .hbm, ⟨25, _⟩ => ⟨S2x8448x8, .f32⟩
  | .hbm, ⟨26, _⟩ => ⟨S2x8448x8x1, .f32⟩
  | .hbm, ⟨27, _⟩ => ⟨S_, .f32⟩
  | .hbm, ⟨28, _⟩ => ⟨S2x8448x8x1, .f32⟩
  | .hbm, ⟨29, _⟩ => ⟨S2x8448x8x1, .f32⟩
  | .hbm, ⟨30, _⟩ => ⟨S_, .f32⟩
  | .hbm, ⟨31, _⟩ => ⟨S2x8448x8x1, .f32⟩
  | .hbm, ⟨32, _⟩ => ⟨S2x8448x8x1, .f32⟩
  | .hbm, ⟨33, _⟩ => ⟨S2x8448x8x1, .f32⟩
  | .hbm, ⟨34, _⟩ => ⟨S2x8448x8x64, .f32⟩
  | .hbm, ⟨35, _⟩ => ⟨S2x8448x8x64, .f32⟩
  | .hbm, ⟨36, _⟩ => ⟨S1x1x1x64, .f32⟩
  | .hbm, ⟨37, _⟩ => ⟨S2x8448x8x64, .f32⟩
  | .hbm, ⟨38, _⟩ => ⟨S2x8448x8x64, .f32⟩
  | .hbm, ⟨39, _⟩ => ⟨S2x8192x8x64, .f32⟩
  | .hbm, ⟨40, _⟩ => ⟨S16384x8x64, .f32⟩
  | .hbm, ⟨41, _⟩ => ⟨S2x256x8x64, .f32⟩
  | .hbm, ⟨42, _⟩ => ⟨S512x8x64, .f32⟩
  | .hbm, ⟨43, _⟩ => ⟨S16896x8x64, .f32⟩
  | .hbm, ⟨44, _⟩ => ⟨S16896x8x64, .f32⟩
  | .hbm, ⟨45, _⟩ => ⟨S16896x8x64, .f32⟩
  | .hbm, ⟨46, _⟩ => ⟨S16896x8x64, .f32⟩
  | .hbm, ⟨47, _⟩ => ⟨S_, .f32⟩
  | .hbm, ⟨48, _⟩ => ⟨S16896x8x64, .f32⟩
  | .hbm, ⟨49, _⟩ => ⟨S16896x8x64, .f32⟩
  | .hbm, ⟨50, _⟩ => ⟨S_, .f32⟩
  | .hbm, ⟨51, _⟩ => ⟨S16896x8x64, .f32⟩
  | .hbm, ⟨52, _⟩ => ⟨S16896x8x64, .f32⟩
  | .hbm, ⟨53, _⟩ => ⟨S16896x8x64, .f32⟩
  | .hbm, ⟨54, _⟩ => ⟨S16896x8x64, .f32⟩
  | .hbm, ⟨55, _⟩ => ⟨S16896x512, .f32⟩
  | .hbm, ⟨56, _⟩ => ⟨S16896x1x512, .f32⟩
  | .hbm, ⟨57, _⟩ => ⟨S16896x1x512, .f32⟩
  | .hbm, ⟨58, _⟩ => ⟨S16896x1x512, .f32⟩
  | .hbm, ⟨59, _⟩ => ⟨S16896x1x512, .f32⟩
  | .hbm, ⟨60, _⟩ => ⟨S16896x4x512, .f32⟩
  | .hbm, ⟨61, _⟩ => ⟨S4x1024x16896, .f32⟩
  | .hbm, ⟨62, _⟩ => ⟨S16896x4x1024, .f32⟩
  | .hbm, ⟨63, _⟩ => ⟨S16896x4x1024, .f32⟩
  | .hbm, ⟨64, _⟩ => ⟨S16896x4x1024, .f32⟩
  | .hbm, ⟨65, _⟩ => ⟨S16896x4x1024, .f32⟩
  | .hbm, ⟨66, _⟩ => ⟨S_, .f32⟩
  | .hbm, ⟨67, _⟩ => ⟨S16896x4x1024, .f32⟩
  | .hbm, ⟨68, _⟩ => ⟨S16896x4x1024, .f32⟩
  | .hbm, ⟨69, _⟩ => ⟨S_, .f32⟩
  | .hbm, ⟨70, _⟩ => ⟨S16896x4x1024, .f32⟩
  | .hbm, ⟨71, _⟩ => ⟨S16896x4x1024, .f32⟩
  | .hbm, ⟨72, _⟩ => ⟨S16896x4x1024, .f32⟩
  | .hbm, ⟨73, _⟩ => ⟨S_, .f32⟩
  | .hbm, ⟨74, _⟩ => ⟨S16896x1024, .f32⟩
  | .hbm, ⟨75, _⟩ => ⟨S16896x1024, .f32⟩
  | .hbm, ⟨76, _⟩ => ⟨S2x1024, .f32⟩
  | .hbm, ⟨77, _⟩ => ⟨S2x1x1024, .f32⟩
  | .hbm, ⟨78, _⟩ => ⟨S2x8192x1024, .f32⟩
  | .hbm, ⟨79, _⟩ => ⟨S16384x1024, .f32⟩
  | .hbm, ⟨80, _⟩ => ⟨S1024, .f32⟩
  | .hbm, ⟨81, _⟩ => ⟨S1x1024, .f32⟩
  | .hbm, ⟨82, _⟩ => ⟨S512x1024, .f32⟩
  | .hbm, ⟨83, _⟩ => ⟨S_, .f32⟩
  | .hbm, ⟨84, _⟩ => ⟨S16896x1024, .f32⟩
  | .hbm, ⟨85, _⟩ => ⟨S16896x1024, .f32⟩
  | .hbm, ⟨86, _⟩ => ⟨S16896x1024, .f32⟩
  | .hbm, ⟨87, _⟩ => ⟨S16896x1024, .f32⟩
  | .hbm, ⟨88, _⟩ => ⟨S16896x1024, .f32⟩
  | .hbm, ⟨89, _⟩ => ⟨S_, .f32⟩
  | .hbm, ⟨90, _⟩ => ⟨S16896, .f32⟩
  | .hbm, ⟨91, _⟩ => ⟨S16896x1, .f32⟩
  | .hbm, ⟨92, _⟩ => ⟨S_, .f32⟩
  | .hbm, ⟨93, _⟩ => ⟨S16896x1, .f32⟩
  | .hbm, ⟨94, _⟩ => ⟨S16896x1, .f32⟩
  | .hbm, ⟨95, _⟩ => ⟨S16896x1024, .f32⟩
  | .hbm, ⟨96, _⟩ => ⟨S16896x1024, .f32⟩
  | .hbm, ⟨97, _⟩ => ⟨S16896x1024, .f32⟩
  | .hbm, ⟨98, _⟩ => ⟨S_, .f32⟩
  | .hbm, ⟨99, _⟩ => ⟨S16896, .f32⟩
  | .hbm, ⟨100, _⟩ => ⟨S16896x1, .f32⟩
  | .hbm, ⟨101, _⟩ => ⟨S_, .f32⟩
  | .hbm, ⟨102, _⟩ => ⟨S16896x1, .f32⟩
  | .hbm, ⟨103, _⟩ => ⟨S16896x1, .f32⟩
  | .hbm, ⟨104, _⟩ => ⟨S16896x1024, .f32⟩
  | .hbm, ⟨105, _⟩ => ⟨S16896x1024, .f32⟩
  | .hbm, ⟨106, _⟩ => ⟨S_, .f32⟩
  | .hbm, ⟨107, _⟩ => ⟨S16896x1, .f32⟩
  | .hbm, ⟨108, _⟩ => ⟨S16896x1, .f32⟩
  | .hbm, ⟨109, _⟩ => ⟨S16896x1, .f32⟩
  | .hbm, ⟨110, _⟩ => ⟨S16896x1024, .f32⟩
  | .hbm, ⟨111, _⟩ => ⟨S16896x1024, .f32⟩
  | .hbm, ⟨112, _⟩ => ⟨S1x1024, .f32⟩
  | .hbm, ⟨113, _⟩ => ⟨S16896x1024, .f32⟩
  | .hbm, ⟨114, _⟩ => ⟨S16896x1024, .f32⟩
  | .hbm, ⟨115, _⟩ => ⟨S1x1024, .f32⟩
  | .hbm, ⟨116, _⟩ => ⟨S16896x1024, .f32⟩
  | .hbm, ⟨117, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_2 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Proof.KernelFrame.lean ====
/-
  The frame of the attention kernel: the body obligation with the output window forgotten, the launch, and every argument array
  unchanged with every counter at zero.
-/
module

public import proofs.«01_k».proof.Proof.Gen.Kernel.Frame
public import proofs.«01_k».proof.Proof.Gen.Kernel.Loops
public import proofs.«01_k».proof.Proof.KernelBody
public import Idealize.ShloMosaic.Lib.Claim

@[expose] public section

set_option maxRecDepth 8192
set_option maxHeartbeats 4000000

noncomputable section

namespace Cert.Proof.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data: the arrays as the region finds them, the output forgotten -/

variable (m : (ℓ : Loc nD τ sig) → Buf (Elt F) ℓ) (ρ : Dev nD → PrngReg)

/-- The output window is forgotten: nothing in this module says what the kernel leaves there. -/
def forgets0 : Fin 6 → Bool := fun w => w = 5

/-- The proof data on core `c`: every input's block left in place, the output's unnamed, the invariant the library's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- The body at any point: the scratch taken out of the invariant, the run, the scratch put back at what the run left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4]
  unfold Pipeline.ΦA
  rw [scopedRest0_eq]
  unfold owns
  iintro ⟨⟨⟨%f9, H9⟩, Hg⟩, Ho, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, -, H5⟩⟩
  iapply ((kernelRun c (grid0.coords t) _ _ _ _ _ _ _ _ _ _ _ _ (Memref.whole cc0_scratch0) _ f0 f1 f2 f3 f4 f9).2 f5 Set.univ _)
  isplitl [H0]; · iexact H0
  isplitl [H1]; · iexact H1
  isplitl [H2]; · iexact H2
  isplitl [H3]; · iexact H3
  isplitl [H4]; · iexact H4
  isplitl [H5]; · iexact H5
  isplitl [H9]
  · simp only [held, Memref.view_whole, View.set_whole]; iexact H9
  iintro ⟨H0, H1, H2, H3, H4, H5, ⟨%g9, H9⟩⟩
  isplitl [H9 Hg]
  · isplitl [H9]
    · iexists g9
      simp only [held, Memref.view_whole, View.set_whole]; iexact H9
    iexact Hg
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; iexists _; isplitr
  swap; · iexact H5
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the library theorem's implicit arguments are found by unfolding plain definitions in a metavariable's type
set_option backward.isDefEq.respectTransparency.types false in
/-- Every execution ends, every array that is no output as the region found it, every counter at zero. -/
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest := fun b hb => (h.1 c).2 b hb
  refine ⟨?_, (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c)⟩
  exact ((Dat.toRForget_arrAt_iff (dats m 0 c) (fgt := forgets0) (w := 1) rfl _ _).mp ((h.1 c).1 1)).trans
    (((dats m 0 c).arrAt_in 1 rfl _).trans ((A_eq m c 1).trans (V_main_arg0 m c)))

end Cert.Proof.KernelBody

end
-- ==== Proof.Spec.lean ====
/-
  What one grid point of the attention kernel computes, written over whole arrays: the scores of one tile of 768 keys, the
  running maximum, sum and accumulator carried from tile to tile for the two components, and the block that is stored after the
  last tile. The scratch that stages the scores does not appear here: a tile's scores are read back in 24 chunks of 32 rows,
  which `chunks` takes from the scores themselves.
-/
module

public import proofs.«01_k».proof.Proof.Gen.KernelIdeal.Skeleton
public import Idealize.ShloMosaic.Lib.Pointwise

@[expose] public section

noncomputable section

namespace Cert.Proof.Spec

open Cert.KernelIdeal Cert.KernelIdeal.Gen
open Idealize.ShloMosaic

variable {F : FTy → Type} [FloatOps F] [Named F]

/-! ## One tile's scores -/

/-- The scores of a tile of 768 keys against one component of the 1024 scaled queries, a row per key. -/
def score (kt : Vec F S1x1x1x768x64 .bf16) (q : FVec F S1024x64 .bf16) : FVec F S768x1024 .f32 :=
  matmul dot_S768x64_S1024x64_S768x1024_1_1_0_0_n_n none (shapeCast S768x64 kt shapeCasts_S1x1x1x768x64_S768x64) q
    (constant S768x1024 .f32 0x00000000#32)

/-- The maxima of the scores over the rows of each residue modulo 8. -/
def fold8 (s : FVec F S768x1024 .f32) : FVec F S8x1024 .f32 :=
  multiReduction .maximumf [0] S8x1024 (shapeCast S96x8x1024 s shapeCasts_S768x1024_S96x8x1024) 0xFF800000#32
    reduces_S96x8x1024_S8x1024 (.inl rfl) rfl

/-- A tile's scores in 24 chunks of 32 rows. -/
def chunks (s : FVec F S768x1024 .f32) (r : Fin 24) : Vec F S1x1x32x1024 .f32 :=
  fun x => s (ix2 (n0 := 768) (n1 := 1024) ⟨32 * r.val + (x 2).val, by have h : (x 2).val < 32 := (x 2).isLt; have := r.isLt; omega⟩ (x 3))

/-! ## The running maximum, sum and accumulator -/

/-- The new running maximum. -/
def mNew (m : FVec F S1x1024 .f32) (mx : FVec F S8x1024 .f32) : FVec F S1x1024 .f32 :=
  maximumf m (shapeCast S1x1024 (multiReduction .maximumf [0] S1024 mx 0xFF800000#32 reduces_S8x1024_S1024 (.inl rfl) rfl)
    shapeCasts_S1024_S1x1024)

/-- The factor the old sum and accumulator are rescaled by. -/
def alpha (m : FVec F S1x1024 .f32) (mx : FVec F S8x1024 .f32) : FVec F S1x1024 .f32 := exp2 (subf m (mNew m mx))

/-- A chunk's weights: the exponentials of its scores less the running maximum. -/
def weight (m' : FVec F S1x1024 .f32) (ld : Vec F S1x1x32x1024 .f32) : FVec F S32x1024 .f32 :=
  exp2 (subf (shapeCast S32x1024 ld shapeCasts_S1x1x32x1024_S32x1024) (broadcastTo S32x1024 m' broadcasts_S1x1024_S32x1024))

/-- The sums of a chunk's weights over the rows of each residue modulo 8. -/
def part (m' : FVec F S1x1024 .f32) (ld : Vec F S1x1x32x1024 .f32) : FVec F S8x1024 .f32 :=
  multiReduction .add [0] S8x1024 (shapeCast S4x8x1024 (weight m' ld) shapeCasts_S32x1024_S4x8x1024) 0x00000000#32
    reduces_S4x8x1024_S8x1024 (.inl rfl) rfl

/-- The chunk of number `n`. -/
def chunkNo (n : ℕ) : Fin 24 := ⟨n % 24, Nat.mod_lt _ (by decide)⟩

/-- The partial sums of the chunks' weights, added up from the first chunk to chunk `n`. -/
def partSum (m' : FVec F S1x1024 .f32) (ld : Fin 24 → Vec F S1x1x32x1024 .f32) : ℕ → FVec F S8x1024 .f32
  | 0 => part m' (ld 0)
  | n + 1 => addf (partSum m' ld n) (part m' (ld (chunkNo (n + 1))))

/-- The new running sum. -/
def lNew (m : FVec F S1x1024 .f32) (mx : FVec F S8x1024 .f32) (l : FVec F S1x1024 .f32) (ld : Fin 24 → Vec F S1x1x32x1024 .f32) :
    FVec F S1x1024 .f32 :=
  addf (mulf (alpha m mx) l)
    (shapeCast S1x1024 (multiReduction .add [0] S1024 (partSum (mNew m mx) ld 23) 0x00000000#32 reduces_S8x1024_S1024 (.inl rfl) rfl)
      shapeCasts_S1024_S1x1024)

/-- The old accumulator, rescaled. -/
def aScaled (m : FVec F S1x1024 .f32) (mx : FVec F S8x1024 .f32) (a : FVec F S128x1024 .f32) : FVec F S128x1024 .f32 :=
  mulf (broadcastTo S128x1024 (alpha m mx) broadcasts_S1x1024_S128x1024) a

/-- A tile's weights, put together from its chunks. -/
def weights (m' : FVec F S1x1024 .f32) (ld : Fin 24 → Vec F S1x1x32x1024 .f32) : FVec F S768x1024 .bf16 :=
  concatenate S768x1024 0 (List.ofFn fun r : Fin 24 => ⟨S32x1024, truncf .bf16 (weight m' (ld r)) bitsLt_bf16_f32⟩)
    concatenates_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S768x1024_d0

/-- A tile's values against the weights of both components, side by side. -/
def mixed (p0 p1 : FVec F S768x1024 .bf16) (vt : FVec F S128x768 .bf16) : FVec F S128x2048 .f32 :=
  matmul dot_S128x768_S768x2048_S128x2048_1_0_0_1_n_n none vt
    (concatenate S768x2048 1 [⟨S768x1024, p0⟩, ⟨S768x1024, p1⟩] concatenates_S768x1024_S768x1024_S768x2048_d1)
    (constant S128x2048 .f32 0x00000000#32)

/-- A tile's values, off the block. -/
def vTile (vt : Vec F S1x1x1x128x768 .bf16) : FVec F S128x768 .bf16 := shapeCast S128x768 vt shapeCasts_S1x1x1x128x768_S128x768

/-- Maximum, sum and accumulator of the two components. -/
abbrev Carry (F : FTy → Type) : Type :=
  FVec F S1x1024 .f32 × FVec F S1x1024 .f32 × FVec F S128x1024 .f32 × FVec F S1x1024 .f32 × FVec F S1x1024 .f32 × FVec F S128x1024 .f32

/-- The values against the weights of the tile the carry meets. -/
def mixedOf (mx0 mx1 : FVec F S8x1024 .f32) (ld0 ld1 : Fin 24 → Vec F S1x1x32x1024 .f32) (vt : Vec F S1x1x1x128x768 .bf16)
    (z : Carry F) : FVec F S128x2048 .f32 :=
  mixed (weights (mNew z.1 mx0) ld0) (weights (mNew z.2.2.2.1 mx1) ld1) (vTile vt)

/-- One tile taken into the carry. -/
def take (mx0 mx1 : FVec F S8x1024 .f32) (ld0 ld1 : Fin 24 → Vec F S1x1x32x1024 .f32) (vt : Vec F S1x1x1x128x768 .bf16)
    (z : Carry F) : Carry F :=
  (mNew z.1 mx0, lNew z.1 mx0 z.2.1 ld0,
    addf (aScaled z.1 mx0 z.2.2.1) (extractStridedSlice S128x1024 ![0, 0] (mixedOf mx0 mx1 ld0 ld1 vt z) slices_S128x2048_o0_0_S128x1024),
    mNew z.2.2.2.1 mx1, lNew z.2.2.2.1 mx1 z.2.2.2.2.1 ld1,
    addf (aScaled z.2.2.2.1 mx1 z.2.2.2.2.2)
      (extractStridedSlice S128x1024 ![0, 1024] (mixedOf mx0 mx1 ld0 ld1 vt z) slices_S128x2048_o0_1024_S128x1024))

/-! ## The whole block -/

/-- Tile `j` of the keys of component `c`, off the staged block. -/
def kTile (K : Vec F S1x1x2x8448x64 .bf16) (c : Fin 2) (j : Fin 11) : Vec F S1x1x1x768x64 .bf16 :=
  fun x => K (ix5 (n0 := 1) (n1 := 1) (n2 := 2) (n3 := 8448) (n4 := 64) 0 0 c
    ⟨768 * j.val + (x 3).val, by have h : (x 3).val < 768 := (x 3).isLt; have := j.isLt; omega⟩ (x 4))

/-- Tile `j` of the values, off the staged block. -/
def vtTile (V : Vec F S1x1x11x128x768 .bf16) (j : Fin 11) : Vec F S1x1x1x128x768 .bf16 :=
  fun x => V (ix5 (n0 := 1) (n1 := 1) (n2 := 11) (n3 := 128) (n4 := 768) 0 0 j (x 3) (x 4))

/-- The scores of tile `j`, component 0. -/
def score0 (Q : Vec F S1x1024x128 .f32) (K : Vec F S1x1x2x8448x64 .bf16) (j : Fin 11) : FVec F S768x1024 .f32 :=
  score (kTile K 0 j) (k0_pay253 Q)

/-- The scores of tile `j`, component 1. -/
def score1 (Q : Vec F S1x1024x128 .f32) (K : Vec F S1x1x2x8448x64 .bf16) (j : Fin 11) : FVec F S768x1024 .f32 :=
  score (kTile K 1 j) (k0_pay254 Q)

/-- The carry before the first tile. -/
def carry0 : Carry F := (k0_pay255, k0_pay256, k0_pay257, k0_pay258, k0_pay259, k0_pay260)

/-- The tile of number `n`. -/
def tileNo (n : ℕ) : Fin 11 := ⟨n % 11, Nat.mod_lt _ (by decide)⟩

/-- Tile `j` taken into the carry. -/
def takeTile (Q : Vec F S1x1024x128 .f32) (K : Vec F S1x1x2x8448x64 .bf16) (V : Vec F S1x1x11x128x768 .bf16) (j : Fin 11) (z : Carry F) :
    Carry F :=
  take (fold8 (score0 Q K j)) (fold8 (score1 Q K j)) (chunks (score0 Q K j)) (chunks (score1 Q K j)) (vtTile V j) z

/-- The carry after the first `n` tiles. -/
def carry (Q : Vec F S1x1024x128 .f32) (K : Vec F S1x1x2x8448x64 .bf16) (V : Vec F S1x1x11x128x768 .bf16) : ℕ → Carry F
  | 0 => carry0
  | n + 1 => takeTile Q K V (tileNo n) (carry Q K V n)

/-- The difference of the two components' quotients. -/
def diff (lam : Elt F .f32) (z : Carry F) : FVec F S128x1024 .f32 :=
  subf (divf z.2.2.1 (broadcastTo S128x1024 z.2.1 broadcasts_S1x1024_S128x1024))
    (mulf (broadcast S128x1024 lam) (divf z.2.2.2.2.2 (broadcastTo S128x1024 z.2.2.2.2.1 broadcasts_S1x1024_S128x1024)))

/-- The reciprocal root of a column's mean square. -/
def rms (o : FVec F S128x1024 .f32) : FVec F S1x1024 .f32 :=
  rsqrt (addf
    (divf (shapeCast S1x1024 (multiReduction .add [0] S1024 (mulf o o) 0x00000000#32 reduces_S128x1024_S1024 (.inl rfl) rfl) shapeCasts_S1024_S1x1024)
      (broadcast S1x1024 (Scalar.ofBits .f32 0x43000000#32)))
    (broadcast S1x1024 (Scalar.ofBits .f32 0x358637BD#32)))

/-- The normalized block. -/
def normed (o : FVec F S128x1024 .f32) (nw : Vec F S128x1 .f32) : FVec F S128x1024 .f32 :=
  mulf (mulf o (broadcastTo S128x1024 (rms o) broadcasts_S1x1024_S128x1024))
    (broadcastTo S128x1024 (mulf (shapeCast S128x1 nw shapeCasts_S128x1_S128x1) (broadcast S128x1 (Scalar.ofBits .f32 0x3F4CCCCD#32)))
      broadcasts_S128x1_S128x1024)

/-- The block that is stored. -/
def finish (lam : Elt F .f32) (nw : Vec F S128x1 .f32) (z : Carry F) : FVec F S1x1024x128 .f32 :=
  shapeCast S1x1024x128 (transpose S1024x128 [1, 0] (normed (diff lam z) nw) transposes_S128x1024_p1_0_S1024x128)
    shapeCasts_S1024x128_S1x1024x128

/-- The block a grid point stores, of its mixing weight, queries, keys, values and norm weights. -/
def block (lam : Elt F .f32) (Q : Vec F S1x1024x128 .f32) (K : Vec F S1x1x2x8448x64 .bf16) (V : Vec F S1x1x11x128x768 .bf16)
    (nw : Vec F S128x1 .f32) : FVec F S1x1024x128 .f32 :=
  finish lam nw (carry Q K V 11)

end Cert.Proof.Spec

end
-- ==== Proof.KernelIdealBody.lean ====
/-
  The body of the attention kernel (`KernelIdeal`), run once at symbolic operands: from the staged windows and the scores scratch held
  at any contents to the return, through the loop over pairs of key tiles by its generated invariant. What the run stores into
  the output window is the run's own find (`kernelRun`), a term over the contents of the windows.

-/
module

public import proofs.«01_k».proof.Proof.Gen.KernelIdeal.Frame
public import proofs.«01_k».proof.Proof.Gen.KernelIdeal.Loops
public import Idealize.ShloMosaic.Lib.Claim

@[expose] public section

set_option maxRecDepth 8192
set_option maxHeartbeats 4000000

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body, run once -/

/-- Memref `M`'s elements on core `c` held at the contents `f`. -/
abbrev held (c : Dev nD) {sp : Space} {S : Shape} {e : EltTy} (M : Memref sig .tc sp S e) (f : BufTy.Contents (Elt F) M.view.ty) : sProp 𝕄 :=
  M.view.loc (c : Thread nD τ) ↦[M.view.set]{fullShare} f

/-- The whole block of the output window. -/
abbrev rOut : Rect S1x1024x128 := Rect.unit (s := S1x1024x128) ![0, 0, 0] S1x1024x128.size inb_S1x1024x128_S1x1024x128_0_0_0

/-- The body's triple: from the windows and the scratch held at `f3 … f9`, the kernel runs to its return handing back the input
    windows as they were, the output window with one block stored over it, and the scratch at some contents. -/
@[irreducible] def kernelRun (c : Dev nD) (i : grid0.Coords)
    (arg3 : Memref sig .tc .smem S1 .f32) (harg3 : arg3.IsWhole)
    (arg4 : Memref sig .tc .vmem S1x1024x128 .f32) (harg4 : arg4.IsWhole)
    (arg5 : Memref sig .tc .vmem S1x1x2x8448x64 .bf16) (harg5 : arg5.IsWhole)
    (arg6 : Memref sig .tc .vmem S1x1x11x128x768 .bf16) (harg6 : arg6.IsWhole)
    (arg7 : Memref sig .tc .vmem S128x1 .f32) (harg7 : arg7.IsWhole)
    (arg8 : Memref sig .tc .vmem S1x1024x128 .f32) (harg8 : arg8.IsWhole)
    (arg9 : Memref sig .tc .vmem S2x2x768x1024 .f32) (harg9 : arg9.IsWhole)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f9 : BufTy.Contents (Elt F) arg9.view.ty) :
    { out : Vec F S1x1024x128 .f32 // ∀ (f8 : BufTy.Contents (Elt F) arg8.view.ty) (E : Set ℕ) (K : PUnit → sProp 𝕄),
      iprop(held c arg3 f3 ∗ held c arg4 f4 ∗ held c arg5 f5 ∗ held c arg6 f6 ∗ held c arg7 f7 ∗ held c arg8 f8 ∗ held c arg9 f9
        ∗ (iprop(held c arg3 f3 ∗ held c arg4 f4 ∗ held c arg5 f5 ∗ held c arg6 f6 ∗ held c arg7 f7
            ∗ held c arg8 (arg8.view.writes (Elt F) f8 [⟨rOut, out⟩]) ∗ (∃ f, held c arg9 f)) -∗ K ⟨⟩))
      ⊢ wp frame (wpE (defs₀ (F := F)) Variants.none c none) E
          (cc0_diff_attention i arg3 harg3 arg4 harg4 arg5 harg5 arg6 harg6 arg7 harg7 arg8 harg8 arg9 harg9) K } := by
  refine ⟨?_, fun f8 E K => ?run⟩
  case run =>
    simp only [cc0_diff_attention_eq_skeleton]; unfold cc0_diff_attention_skel
    iintro ⟨H3, H4, H5, H6, H7, H8, H9, Hk⟩
    simp only [k0_part27_eq_skeleton]
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    iexists _; iexact H9

end Cert.Proof.KernelIdealBody

end
-- ==== Proof.Trip.lean ====
/-
  One round of the kernel's loop over pairs of key tiles, and the run after the loop, read as the steps of `Spec`.
-/
module

public import proofs.«01_k».proof.Proof.Spec
public import proofs.«01_k».proof.Proof.KernelIdealBody
public import Idealize.ShloMosaic.Lib.WritesUnit
public import Idealize.ShloMosaic.Lib.Pipeline.ValueKit.Basic

@[expose] public section

set_option maxRecDepth 8192
set_option maxHeartbeats 4000000

noncomputable section

namespace Cert.Proof.Trip

open Cert.KernelIdeal Cert.KernelIdeal.Gen Cert.Proof.Spec
open Idealize.ShloMosaic Idealize.ShloMosaic.TcCoe
open Idealize.SL.Sem

variable {F : FTy → Type} [FloatOps F] [Named F]

theorem inb (s c : Fin 2) (r : Fin 24) :
    ∀ a, (![s.val, c.val, 32 * r.val, 0] : Fin 4 → Nat) a + S1x1x32x1024.size a ≤ S2x2x768x1024.size a := by
  revert s c r; decide

/-- Chunk `r` of slot `s`, component `c`, of the staged scores. -/
def stage (arg9 : Memref sig .tc .vmem S2x2x768x1024 .f32) (f : BufTy.Contents (Elt F) arg9.view.ty) (s c : Fin 2) (r : Fin 24) :
    Vec F S1x1x32x1024 .f32 :=
  View.readAt (Elt F) arg9.view (Rect.unit (s := S2x2x768x1024) ![s.val, c.val, 32 * r.val, 0] S1x1x32x1024.size (inb s c r)).toLoadRect f

section
variable (𝒱 : Variants) (c : Dev nD) (bd : Option 𝒱.V) (i : grid0.Coords) (arg3 : Memref sig .tc .smem S1 .f32) (harg3 : arg3.IsWhole) (arg4 : Memref sig .tc .vmem S1x1024x128 .f32) (harg4 : arg4.IsWhole) (arg5 : Memref sig .tc .vmem S1x1x2x8448x64 .bf16) (harg5 : arg5.IsWhole) (arg6 : Memref sig .tc .vmem S1x1x11x128x768 .bf16) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S2x2x768x1024 .f32) (harg9 : arg9.IsWhole) (v5 : FVec F S1024x64 .bf16) (v6 : FVec F S1024x64 .bf16) (v7 : FVec F S1x1024 .f32) (v8 : FVec F S1x1024 .f32) (v9 : FVec F S128x1024 .f32) (v10 : FVec F S1x1024 .f32) (v11 : FVec F S1x1024 .f32) (v12 : FVec F S128x1024 .f32) (v22 : FVec F S8x1024 .f32) (v26 : FVec F S768x1024 .f32) (X_arg5 : BufTy.Contents (Elt F) arg5.view.ty) (X_arg6 : BufTy.Contents (Elt F) arg6.view.ty) (k : Fin k0_t1_loop.trips) (acc : FVec F S1x1024 .f32 × FVec F S1x1024 .f32 × FVec F S128x1024 .f32 × FVec F S1x1024 .f32 × FVec F S1x1024 .f32 × FVec F S128x1024 .f32 × FVec F S8x1024 .f32 × FVec F S8x1024 .f32) (f_arg9 : BufTy.Contents (Elt F) arg9.view.ty)

/-- The key tile a round loads, component 0, `e` tiles after its first. -/
abbrev kLoad0 (e : Fin 2) : Vec F S1x1x1x768x64 .bf16 :=
  View.readAt (Elt F) arg5.view (Rect.unit (s := S1x1x2x8448x64) (k0_off1 k (BitVec.ofNat 32 (1 + e.val))) S1x1x1x768x64.size (k0_off1_inb k e)).toLoadRect X_arg5

/-- The key tile a round loads, component 1, `e` tiles after its first. -/
abbrev kLoad1 (e : Fin 2) : Vec F S1x1x1x768x64 .bf16 :=
  View.readAt (Elt F) arg5.view (Rect.unit (s := S1x1x2x8448x64) (k0_off2 k (BitVec.ofNat 32 (1 + e.val))) S1x1x1x768x64.size (k0_off2_inb k e)).toLoadRect X_arg5

/-- The first value tile a round loads. -/
abbrev vLoad0 : Vec F S1x1x1x128x768 .bf16 :=
  View.readAt (Elt F) arg6.view (Rect.unit (s := S1x1x11x128x768) (k0_off3 k) S1x1x1x128x768.size (k0_off3_inb k)).toLoadRect X_arg6

/-- The second value tile a round loads. -/
abbrev vLoad1 : Vec F S1x1x1x128x768 .bf16 :=
  View.readAt (Elt F) arg6.view (Rect.unit (s := S1x1x11x128x768) (k0_off4 k) S1x1x1x128x768.size (k0_off4_inb k)).toLoadRect X_arg6

/-- What a round leaves on the staging scratch, over what it found there. -/
abbrev wrote : List (View.Piece (Elt F) S2x2x768x1024 .f32) :=
  [⟨Rect.unit (s := S2x2x768x1024) ![0, 1, 0, 0] S1x1x768x1024.size inb_S2x2x768x1024_S1x1x768x1024_0_1_0_0, shapeCast S1x1x768x1024 (score (kLoad1 arg5 X_arg5 k 1) v6) shapeCasts_S768x1024_S1x1x768x1024⟩,
   ⟨Rect.unit (s := S2x2x768x1024) ![0, 0, 0, 0] S1x1x768x1024.size inb_S2x2x768x1024_S1x1x768x1024_0_0_0_0, shapeCast S1x1x768x1024 (score (kLoad0 arg5 X_arg5 k 1) v5) shapeCasts_S768x1024_S1x1x768x1024⟩,
   ⟨Rect.unit (s := S2x2x768x1024) ![1, 1, 0, 0] S1x1x768x1024.size inb_S2x2x768x1024_S1x1x768x1024_1_1_0_0, shapeCast S1x1x768x1024 (score (kLoad1 arg5 X_arg5 k 0) v6) shapeCasts_S768x1024_S1x1x768x1024⟩,
   ⟨Rect.unit (s := S2x2x768x1024) ![1, 0, 0, 0] S1x1x768x1024.size inb_S2x2x768x1024_S1x1x768x1024_1_0_0_0, shapeCast S1x1x768x1024 (score (kLoad0 arg5 X_arg5 k 0) v5) shapeCasts_S768x1024_S1x1x768x1024⟩]

/-- A carry with the folded maxima of the tile staged next. -/
abbrev Trip (F : FTy → Type) : Type :=
  FVec F S1x1024 .f32 × FVec F S1x1024 .f32 × FVec F S128x1024 .f32 × FVec F S1x1024 .f32 × FVec F S1x1024 .f32 × FVec F S128x1024 .f32 × FVec F S8x1024 .f32 × FVec F S8x1024 .f32

/-- The carry of a round's value. -/
abbrev Trip.carry (z : Trip F) : Carry F := (z.1, z.2.1, z.2.2.1, z.2.2.2.1, z.2.2.2.2.1, z.2.2.2.2.2.1)

/-- A carry put together with folded maxima. -/
abbrev trip (z : Carry F) (m0 m1 : FVec F S8x1024 .f32) : Trip F := (z.1, z.2.1, z.2.2.1, z.2.2.2.1, z.2.2.2.2.1, z.2.2.2.2.2, m0, m1)

theorem carry_trip (z : Carry F) (m0 m1 : FVec F S8x1024 .f32) : Trip.carry (trip z m0 m1) = z := rfl

theorem trip_max0 (z : Carry F) (m0 m1 : FVec F S8x1024 .f32) : (trip z m0 m1).2.2.2.2.2.2.1 = m0 := rfl

theorem trip_max1 (z : Carry F) (m0 m1 : FVec F S8x1024 .f32) : (trip z m0 m1).2.2.2.2.2.2.2 = m1 := rfl

theorem carry_succ (Q : Vec F S1x1024x128 .f32) (K : Vec F S1x1x2x8448x64 .bf16) (V : Vec F S1x1x11x128x768 .bf16) (n : ℕ) :
    carry Q K V (n + 1) = takeTile Q K V (tileNo n) (carry Q K V n) := rfl

/-- The round's first tile taken in. -/
abbrev firstHalf : Carry F :=
  take acc.2.2.2.2.2.2.1 acc.2.2.2.2.2.2.2 (stage arg9 f_arg9 0 0) (stage arg9 f_arg9 0 1) (vLoad0 arg6 X_arg6 k) (Trip.carry acc)

/-- Both of the round's tiles taken in. -/
abbrev bothHalves : Carry F :=
  take (fold8 (score (kLoad0 arg5 X_arg5 k 0) v5)) (fold8 (score (kLoad1 arg5 X_arg5 k 0) v6))
    (stage arg9 (arg9.view.writes (Elt F) arg9.view.junk (wrote arg5 v5 v6 X_arg5 k)) 1 0)
    (stage arg9 (arg9.view.writes (Elt F) arg9.view.junk (wrote arg5 v5 v6 X_arg5 k)) 1 1) (vLoad1 arg6 X_arg6 k)
    (firstHalf arg6 arg9 X_arg6 k acc f_arg9)

theorem first_half :
    (trip_k0_t1.sl.v548 acc, trip_k0_t1.sl.v769 arg9 acc f_arg9, trip_k0_t1.sl.v1006 arg6 arg9 X_arg6 k acc f_arg9,
      trip_k0_t1.sl.v775 acc, trip_k0_t1.sl.v996 arg9 acc f_arg9, trip_k0_t1.sl.v1008 arg6 arg9 X_arg6 k acc f_arg9)
      = firstHalf arg6 arg9 X_arg6 k acc f_arg9 := by
  rfl

theorem tripL_eq :
    tripL_k0_t1 𝒱 c bd i arg3 harg3 arg4 harg4 arg5 harg5 arg6 harg6 arg7 harg7 arg8 harg8 arg9 harg9 v5 v6 v7 v8 v9 v10 v11 v12 v22 v26 X_arg5 X_arg6 k acc f_arg9
      = wrote arg5 v5 v6 X_arg5 k := by
  unfold tripL_k0_t1 trip_k0_t1
  rfl

theorem tripR_eq :
    tripR_k0_t1 𝒱 c bd i arg3 harg3 arg4 harg4 arg5 harg5 arg6 harg6 arg7 harg7 arg8 harg8 arg9 harg9 v5 v6 v7 v8 v9 v10 v11 v12 v22 v26 X_arg5 X_arg6 k acc f_arg9
      = trip (bothHalves arg5 arg6 arg9 v5 v6 X_arg5 X_arg6 k acc f_arg9)
          (fold8 (score (kLoad0 arg5 X_arg5 k 1) v5)) (fold8 (score (kLoad1 arg5 X_arg5 k 1) v6)) := by
  unfold tripR_k0_t1 trip_k0_t1
  rfl
end

/-! ## What the staging scratch holds -/

theorem sc_at {S : FVec F S768x1024 .f32} (x : S1x1x768x1024.Idx) :
    (shapeCast S1x1x768x1024 S shapeCasts_S768x1024_S1x1x768x1024 : FVec F S1x1x768x1024 .f32) x = S (ix2 (n0 := 768) (n1 := 1024) (x 2) (x 3)) := by
  pointwise []

/-- A slot just written reads back as the scores stored there. -/
theorem stage_hit (arg9 : Memref sig .tc .vmem S2x2x768x1024 .f32) (f : BufTy.Contents (Elt F) arg9.view.ty) (s c : Fin 2)
    (off : Fin 4 → ℕ) (h : ∀ a, off a + S1x1x768x1024.size a ≤ S2x2x768x1024.size a) (hoff : off = ![s.val, c.val, 0, 0]) (S : FVec F S768x1024 .f32)
    (L : List (View.Piece (Elt F) S2x2x768x1024 .f32)) :
    stage arg9 (arg9.view.writes (Elt F) f (⟨Rect.unit (s := S2x2x768x1024) off S1x1x768x1024.size h,
        shapeCast S1x1x768x1024 S shapeCasts_S768x1024_S1x1x768x1024⟩ :: L)) s c = chunks S := by
  funext r x
  unfold stage
  rw [View.readAt_apply]
  have hx2 : (x 2).val < 32 := (x 2).isLt
  have hr := r.isLt
  rw [View.read_writes_cons_unit_of_mem arg9.view f h _ L _
    (ix4 (n0 := 1) (n1 := 1) (n2 := 768) (n3 := 1024) 0 0 ⟨32 * r.val + (x 2).val, by omega⟩ (x 3)) hoff]
  · exact sc_at _
  · intro a
    have h0 : (x 0).val = 0 := by have : (x 0).val < 1 := (x 0).isLt; omega
    have h1 : (x 1).val = 0 := by have : (x 1).val < 1 := (x 1).isLt; omega
    match a with
    | ⟨0, _⟩ => show s.val + 1 * (x 0).val = s.val + 0; omega
    | ⟨1, _⟩ => show c.val + 1 * (x 1).val = c.val + 0; omega
    | ⟨2, _⟩ => show 32 * r.val + 1 * (x 2).val = 0 + (32 * r.val + (x 2).val); omega
    | ⟨3, _⟩ => show 0 + 1 * (x 3).val = 0 + (x 3).val; omega

/-- A slot another write leaves alone reads back as before it. -/
theorem stage_miss (arg9 : Memref sig .tc .vmem S2x2x768x1024 .f32) (f : BufTy.Contents (Elt F) arg9.view.ty) (s c : Fin 2)
    (off : Fin 4 → ℕ) (h : ∀ a, off a + S1x1x768x1024.size a ≤ S2x2x768x1024.size a) (s' c' : Fin 2) (hoff : off = ![s'.val, c'.val, 0, 0])
    (hne : s ≠ s' ∨ c ≠ c') (w : Vec F S1x1x768x1024 .f32)
    (L : List (View.Piece (Elt F) S2x2x768x1024 .f32)) :
    stage arg9 (arg9.view.writes (Elt F) f (⟨Rect.unit (s := S2x2x768x1024) off S1x1x768x1024.size h, w⟩ :: L)) s c
      = stage arg9 (arg9.view.writes (Elt F) f L) s c := by
  funext r x
  unfold stage
  rw [View.readAt_apply, View.readAt_apply]
  have h0 : (x 0).val = 0 := by have : (x 0).val < 1 := (x 0).isLt; omega
  have h1 : (x 1).val = 0 := by have : (x 1).val < 1 := (x 1).isLt; omega
  rcases hne with hne | hne
  · refine View.read_writes_cons_unit_of_not_mem arg9.view f h w L _ hoff 0 ?_
    show s.val + 1 * (x 0).val < s'.val ∨ s'.val + 1 ≤ s.val + 1 * (x 0).val
    have : s.val ≠ s'.val := fun e => hne (Fin.ext e)
    omega
  · refine View.read_writes_cons_unit_of_not_mem arg9.view f h w L _ hoff 1 ?_
    show c.val + 1 * (x 1).val < c'.val ∨ c'.val + 1 ≤ c.val + 1 * (x 1).val
    have : c.val ≠ c'.val := fun e => hne (Fin.ext e)
    omega

/-! ## The tiles a round loads -/

theorem kLoad_eq (arg5 : Memref sig .tc .vmem S1x1x2x8448x64 .bf16) (f : BufTy.Contents (Elt F) arg5.view.ty) (c : Fin 2) (j : Fin 11)
    (off : Fin 5 → ℕ) (h : ∀ a, off a + S1x1x1x768x64.size a ≤ S1x1x2x8448x64.size a) (hoff : off = ![0, 0, c.val, 768 * j.val, 0]) :
    View.readAt (Elt F) arg5.view (Rect.unit (s := S1x1x2x8448x64) off S1x1x1x768x64.size h).toLoadRect f
      = kTile (arg5.view.read (Elt F) f) c j := by
  subst hoff
  funext x
  rw [View.readAt_apply]
  refine congrArg (arg5.view.read (Elt F) f) (funext fun a => Fin.ext ?_)
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  match a with
  | ⟨0, _⟩ => show 0 + 1 * (x 0).val = 0; omega
  | ⟨1, _⟩ => show 0 + 1 * (x 1).val = 0; omega
  | ⟨2, _⟩ => show c.val + 1 * (x 2).val = c.val; omega
  | ⟨3, _⟩ => show 768 * j.val + 1 * (x 3).val = 768 * j.val + (x 3).val; omega
  | ⟨4, _⟩ => show 0 + 1 * (x 4).val = (x 4).val; omega

theorem vLoad_eq (arg6 : Memref sig .tc .vmem S1x1x11x128x768 .bf16) (f : BufTy.Contents (Elt F) arg6.view.ty) (j : Fin 11)
    (off : Fin 5 → ℕ) (h : ∀ a, off a + S1x1x1x128x768.size a ≤ S1x1x11x128x768.size a) (hoff : off = ![0, 0, j.val, 0, 0]) :
    View.readAt (Elt F) arg6.view (Rect.unit (s := S1x1x11x128x768) off S1x1x1x128x768.size h).toLoadRect f
      = vtTile (arg6.view.read (Elt F) f) j := by
  subst hoff
  funext x
  rw [View.readAt_apply]
  refine congrArg (arg6.view.read (Elt F) f) (funext fun a => Fin.ext ?_)
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  match a with
  | ⟨0, _⟩ => show 0 + 1 * (x 0).val = 0; omega
  | ⟨1, _⟩ => show 0 + 1 * (x 1).val = 0; omega
  | ⟨2, _⟩ => show j.val + 1 * (x 2).val = j.val; omega
  | ⟨3, _⟩ => show 0 + 1 * (x 3).val = (x 3).val; omega
  | ⟨4, _⟩ => show 0 + 1 * (x 4).val = (x 4).val; omega

/-! ## The rounds together -/

section
variable (c : Dev nD) (i : grid0.Coords) (arg3 : Memref sig .tc .smem S1 .f32) (harg3 : arg3.IsWhole) (arg4 : Memref sig .tc .vmem S1x1024x128 .f32) (harg4 : arg4.IsWhole) (arg5 : Memref sig .tc .vmem S1x1x2x8448x64 .bf16) (harg5 : arg5.IsWhole) (arg6 : Memref sig .tc .vmem S1x1x11x128x768 .bf16) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S2x2x768x1024 .f32) (harg9 : arg9.IsWhole)
  (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f9 : BufTy.Contents (Elt F) arg9.view.ty)

/-- The queries' block, as loaded. -/
abbrev qLoad : Vec F S1x1024x128 .f32 :=
  View.readAt (Elt F) arg4.view (Rect.unit (s := S1x1024x128) ![0, 0, 0] S1x1024x128.size inb_S1x1024x128_S1x1024x128_0_0_0).toLoadRect f4

/-- The first key tile, as loaded before the rounds. -/
abbrev kFirst0 : Vec F S1x1x1x768x64 .bf16 :=
  View.readAt (Elt F) arg5.view (Rect.unit (s := S1x1x2x8448x64) ![0, 0, 0, 0, 0] S1x1x1x768x64.size inb_S1x1x2x8448x64_S1x1x1x768x64_0_0_0_0_0).toLoadRect f5

/-- The first key tile of component 1. -/
abbrev kFirst1 : Vec F S1x1x1x768x64 .bf16 :=
  View.readAt (Elt F) arg5.view (Rect.unit (s := S1x1x2x8448x64) ![0, 0, 1, 0, 0] S1x1x1x768x64.size inb_S1x1x2x8448x64_S1x1x1x768x64_0_0_1_0_0).toLoadRect f5

/-- What is staged before the rounds. -/
abbrev wroteFirst : List (View.Piece (Elt F) S2x2x768x1024 .f32) :=
  [⟨Rect.unit (s := S2x2x768x1024) ![0, 1, 0, 0] S1x1x768x1024.size inb_S2x2x768x1024_S1x1x768x1024_0_1_0_0, shapeCast S1x1x768x1024 (score (kFirst1 arg5 f5) (k0_pay254 (qLoad arg4 f4))) shapeCasts_S768x1024_S1x1x768x1024⟩,
   ⟨Rect.unit (s := S2x2x768x1024) ![0, 0, 0, 0] S1x1x768x1024.size inb_S2x2x768x1024_S1x1x768x1024_0_0_0_0, shapeCast S1x1x768x1024 (score (kFirst0 arg5 f5) (k0_pay253 (qLoad arg4 f4))) shapeCasts_S768x1024_S1x1x768x1024⟩]

/-- The rounds' state after `n` of them. -/
abbrev rounds (n : ℕ) :=
  st_k0_t1 Variants.none c none i arg3 harg3 arg4 harg4 arg5 harg5 arg6 harg6 arg7 harg7 arg8 harg8 arg9 harg9
    (k0_pay253 (qLoad arg4 f4)) (k0_pay254 (qLoad arg4 f4)) k0_pay255 k0_pay256 k0_pay257 k0_pay258 k0_pay259 k0_pay260
    (fold8 (score (kFirst0 arg5 f5) (k0_pay253 (qLoad arg4 f4)))) (score (kFirst1 arg5 f5) (k0_pay254 (qLoad arg4 f4))) f5 f6
    (arg9.view.writes (Elt F) f9 (wroteFirst arg4 arg5 f4 f5))
    (trip carry0 (fold8 (score (kFirst0 arg5 f5) (k0_pay253 (qLoad arg4 f4)))) (fold8 (score (kFirst1 arg5 f5) (k0_pay254 (qLoad arg4 f4))))) n

/-- The rounds' state at the loop's end. -/
abbrev after := rounds c i arg3 harg3 arg4 harg4 arg5 harg5 arg6 harg6 arg7 harg7 arg8 harg8 arg9 harg9 f4 f5 f6 f9 k0_t1_loop.trips

/-- The staged scores the last tile reads. -/
abbrev lastStage (s : Fin 2) : Fin 24 → Vec F S1x1x32x1024 .f32 :=
  stage arg9 (arg9.view.writes (Elt F) arg9.view.junk ((after c i arg3 harg3 arg4 harg4 arg5 harg5 arg6 harg6 arg7 harg7 arg8 harg8 arg9 harg9 f4 f5 f6 f9).2 ++ wroteFirst arg4 arg5 f4 f5)) 0 s

theorem lam_eq : KernelIdealBody.kernelRun.sl.r_16 arg3 f3 = arg3.view.read (Elt F) f3 (ix1 (n0 := 1) 0) := by
  unfold KernelIdealBody.kernelRun.sl.r_16
  rw [View.readAt_apply]
  exact congrArg (arg3.view.read (Elt F) f3) (funext fun a => match a with | ⟨0, _⟩ => Subsingleton.elim (α := Fin 1) _ _)

theorem out_eq :
    (KernelIdealBody.kernelRun c i arg3 harg3 arg4 harg4 arg5 harg5 arg6 harg6 arg7 harg7 arg8 harg8 arg9 harg9 f3 f4 f5 f6 f7 f9).1
      = finish (KernelIdealBody.kernelRun.sl.r_16 arg3 f3)
          (View.readAt (Elt F) arg7.view (Rect.unit (s := S128x1) ![0, 0] ![128, 1] inb_S128x1_S128x1_0_0).toLoadRect f7)
          (take (after c i arg3 harg3 arg4 harg4 arg5 harg5 arg6 harg6 arg7 harg7 arg8 harg8 arg9 harg9 f4 f5 f6 f9).1.2.2.2.2.2.2.1 (after c i arg3 harg3 arg4 harg4 arg5 harg5 arg6 harg6 arg7 harg7 arg8 harg8 arg9 harg9 f4 f5 f6 f9).1.2.2.2.2.2.2.2 (lastStage c i arg3 harg3 arg4 harg4 arg5 harg5 arg6 harg6 arg7 harg7 arg8 harg8 arg9 harg9 f4 f5 f6 f9 0) (lastStage c i arg3 harg3 arg4 harg4 arg5 harg5 arg6 harg6 arg7 harg7 arg8 harg8 arg9 harg9 f4 f5 f6 f9 1)
            (View.readAt (Elt F) arg6.view (Rect.unit (s := S1x1x11x128x768) ![0, 0, 10, 0, 0] S1x1x1x128x768.size (by decide)).toLoadRect f6)
            (Trip.carry (after c i arg3 harg3 arg4 harg4 arg5 harg5 arg6 harg6 arg7 harg7 arg8 harg8 arg9 harg9 f4 f5 f6 f9).1)) := by
  unfold KernelIdealBody.kernelRun
  rfl

/-- After `n` rounds the carry is that of `2 n` tiles, and the scratch holds the next tile's scores whatever it held before. -/
theorem rounds_eq (n : ℕ) (hn : n ≤ k0_t1_loop.trips) :
    (rounds c i arg3 harg3 arg4 harg4 arg5 harg5 arg6 harg6 arg7 harg7 arg8 harg8 arg9 harg9 f4 f5 f6 f9 n).1
        = trip (carry (qLoad arg4 f4) (arg5.view.read (Elt F) f5) (arg6.view.read (Elt F) f6) (2 * n))
            (fold8 (score0 (qLoad arg4 f4) (arg5.view.read (Elt F) f5) (tileNo (2 * n))))
            (fold8 (score1 (qLoad arg4 f4) (arg5.view.read (Elt F) f5) (tileNo (2 * n))))
      ∧ ∀ f, stage arg9 (arg9.view.writes (Elt F) f ((rounds c i arg3 harg3 arg4 harg4 arg5 harg5 arg6 harg6 arg7 harg7 arg8 harg8 arg9 harg9 f4 f5 f6 f9 n).2 ++ wroteFirst arg4 arg5 f4 f5)) 0 0
            = chunks (score0 (qLoad arg4 f4) (arg5.view.read (Elt F) f5) (tileNo (2 * n)))
          ∧ stage arg9 (arg9.view.writes (Elt F) f ((rounds c i arg3 harg3 arg4 harg4 arg5 harg5 arg6 harg6 arg7 harg7 arg8 harg8 arg9 harg9 f4 f5 f6 f9 n).2 ++ wroteFirst arg4 arg5 f4 f5)) 0 1
            = chunks (score1 (qLoad arg4 f4) (arg5.view.read (Elt F) f5) (tileNo (2 * n))) := by
  have h5 : k0_t1_loop.trips ≤ 5 := k0_t1_abs.2.1
  have hf0 : kFirst0 arg5 f5 = kTile (arg5.view.read (Elt F) f5) 0 (tileNo (2 * 0)) := kLoad_eq arg5 f5 0 (tileNo 0) _ _ rfl
  have hf1 : kFirst1 arg5 f5 = kTile (arg5.view.read (Elt F) f5) 1 (tileNo (2 * 0)) := kLoad_eq arg5 f5 1 (tileNo 0) _ _ rfl
  induction n with
  | zero =>
    refine ⟨?_, fun f => ⟨?_, ?_⟩⟩
    · rw [rounds, st_k0_t1_zero, hf0, hf1]; rfl
    · rw [show (rounds c i arg3 harg3 arg4 harg4 arg5 harg5 arg6 harg6 arg7 harg7 arg8 harg8 arg9 harg9 f4 f5 f6 f9 0).2 = [] from rfl, List.nil_append]
      exact (stage_miss arg9 f 0 0 _ _ 0 1 rfl (by decide) _ _).trans ((stage_hit arg9 f 0 0 _ _ rfl _ _).trans (by rw [hf0]; rfl))
    · rw [show (rounds c i arg3 harg3 arg4 harg4 arg5 harg5 arg6 harg6 arg7 harg7 arg8 harg8 arg9 harg9 f4 f5 f6 f9 0).2 = [] from rfl, List.nil_append]
      exact (stage_hit arg9 f 0 1 _ _ rfl _ _).trans (by rw [hf1]; rfl)
  | succ n ih =>
    obtain ⟨ih1, ih2⟩ := ih (by omega)
    let k : Fin k0_t1_loop.trips := ⟨n, by omega⟩
    have hk5 : n < 5 := by omega
    have tj : ∀ m, m < 11 → (tileNo m).val = m := fun m hm => Nat.mod_eq_of_lt hm
    have e0 : ∀ e : Fin 2, kLoad0 arg5 f5 k e = kTile (arg5.view.read (Elt F) f5) 0 (tileNo (2 * n + 1 + e.val)) := fun e =>
      kLoad_eq arg5 f5 0 _ _ _ (by rw [k0_off1_eq, tj _ (by omega)]; show ![0, 0, 0, 1536 * n + 768 * e.val + 768, 0] = _; congr 4; omega)
    have e1 : ∀ e : Fin 2, kLoad1 arg5 f5 k e = kTile (arg5.view.read (Elt F) f5) 1 (tileNo (2 * n + 1 + e.val)) := fun e =>
      kLoad_eq arg5 f5 1 _ _ _ (by rw [k0_off2_eq, tj _ (by omega)]; show ![0, 0, 1, 1536 * n + 768 * e.val + 768, 0] = _; congr 4; omega)
    have w0 : vLoad0 arg6 f6 k = vtTile (arg6.view.read (Elt F) f6) (tileNo (2 * n)) :=
      vLoad_eq arg6 f6 _ _ _ (by rw [k0_off3_eq, tj _ (by omega)])
    have w1 : vLoad1 arg6 f6 k = vtTile (arg6.view.read (Elt F) f6) (tileNo (2 * n + 1)) :=
      vLoad_eq arg6 f6 _ _ _ (by rw [k0_off4_eq, tj _ (by omega)])
    have hs : rounds c i arg3 harg3 arg4 harg4 arg5 harg5 arg6 harg6 arg7 harg7 arg8 harg8 arg9 harg9 f4 f5 f6 f9 (n + 1) = _ := st_k0_t1_succ Variants.none c none i arg3 harg3 arg4 harg4 arg5 harg5 arg6 harg6 arg7 harg7 arg8 harg8 arg9 harg9 _ _ _ _ _ _ _ _ _ _ _ _ _ _ k
    rw [hs]
    have hb : bothHalves arg5 arg6 arg9 (k0_pay253 (qLoad arg4 f4)) (k0_pay254 (qLoad arg4 f4)) f5 f6 k (rounds c i arg3 harg3 arg4 harg4 arg5 harg5 arg6 harg6 arg7 harg7 arg8 harg8 arg9 harg9 f4 f5 f6 f9 n).1
        (arg9.view.writes (Elt F) (arg9.view.writes (Elt F) f9 (wroteFirst arg4 arg5 f4 f5)) (rounds c i arg3 harg3 arg4 harg4 arg5 harg5 arg6 harg6 arg7 harg7 arg8 harg8 arg9 harg9 f4 f5 f6 f9 n).2)
        = carry (qLoad arg4 f4) (arg5.view.read (Elt F) f5) (arg6.view.read (Elt F) f6) (2 * n + 1 + 1) := by
      rw [carry_succ, carry_succ, takeTile, takeTile, bothHalves, firstHalf, ← View.writes_append, (ih2 f9).1, (ih2 f9).2, ih1, carry_trip, trip_max0, trip_max1, w0, w1, e0 0, e1 0]
      have s0 : stage arg9 (arg9.view.writes (Elt F) arg9.view.junk (wrote arg5 (k0_pay253 (qLoad arg4 f4)) (k0_pay254 (qLoad arg4 f4)) f5 k)) 1 0
          = chunks (score0 (qLoad arg4 f4) (arg5.view.read (Elt F) f5) (tileNo (2 * n + 1))) :=
        (stage_miss arg9 _ 1 0 _ _ 0 1 rfl (by decide) _ _).trans <| (stage_miss arg9 _ 1 0 _ _ 0 0 rfl (by decide) _ _).trans <|
          (stage_miss arg9 _ 1 0 _ _ 1 1 rfl (by decide) _ _).trans <| (stage_hit arg9 _ 1 0 _ _ rfl _ _).trans (by rw [e0]; rfl)
      have s1 : stage arg9 (arg9.view.writes (Elt F) arg9.view.junk (wrote arg5 (k0_pay253 (qLoad arg4 f4)) (k0_pay254 (qLoad arg4 f4)) f5 k)) 1 1
          = chunks (score1 (qLoad arg4 f4) (arg5.view.read (Elt F) f5) (tileNo (2 * n + 1))) :=
        (stage_miss arg9 _ 1 1 _ _ 0 1 rfl (by decide) _ _).trans <| (stage_miss arg9 _ 1 1 _ _ 0 0 rfl (by decide) _ _).trans <|
          (stage_hit arg9 _ 1 1 _ _ rfl _ _).trans (by rw [e1]; rfl)
      rw [s0, s1]
      simp only [score0, score1, Fin.val_zero, Nat.add_zero]
    refine ⟨?_, fun f => ⟨?_, ?_⟩⟩
    · rw [tripR_eq, hb, e0, e1]; rfl
    · rw [tripL_eq, List.append_assoc]
      exact (stage_miss arg9 _ 0 0 _ _ 0 1 rfl (by decide) _ _).trans <| (stage_hit arg9 _ 0 0 _ _ rfl _ _).trans (by rw [e0]; rfl)
    · rw [tripL_eq, List.append_assoc]
      exact (stage_hit arg9 _ 0 1 _ _ rfl _ _).trans (by rw [e1]; rfl)

/-- The block the run stores: that of the contents of its windows. -/
theorem run_eq :
    (KernelIdealBody.kernelRun c i arg3 harg3 arg4 harg4 arg5 harg5 arg6 harg6 arg7 harg7 arg8 harg8 arg9 harg9 f3 f4 f5 f6 f7 f9).1
      = block (arg3.view.read (Elt F) f3 (ix1 (n0 := 1) 0)) (arg4.view.read (Elt F) f4) (arg5.view.read (Elt F) f5) (arg6.view.read (Elt F) f6)
          (arg7.view.read (Elt F) f7) := by
  have ht : k0_t1_loop.trips = 5 := by decide
  obtain ⟨h1, h2⟩ := rounds_eq c i arg3 harg3 arg4 harg4 arg5 harg5 arg6 harg6 arg7 harg7 arg8 harg8 arg9 harg9 f4 f5 f6 f9 k0_t1_loop.trips le_rfl
  have hq : qLoad arg4 f4 = arg4.view.read (Elt F) f4 := by
    rw [qLoad, View.readAt_eq_ld]; exact View.ld_unit_lit (S := S1x1024x128) _ _ (by decide)
  have hn : View.readAt (Elt F) arg7.view (Rect.unit (s := S128x1) ![0, 0] ![128, 1] inb_S128x1_S128x1_0_0).toLoadRect f7 = arg7.view.read (Elt F) f7 := by
    rw [View.readAt_eq_ld]; exact View.ld_unit_lit (S := S128x1) _ _ (by decide)
  have hv : View.readAt (Elt F) arg6.view (Rect.unit (s := S1x1x11x128x768) ![0, 0, 10, 0, 0] S1x1x1x128x768.size (by decide)).toLoadRect f6
      = vtTile (arg6.view.read (Elt F) f6) (tileNo 10) := vLoad_eq arg6 f6 (tileNo 10) _ _ rfl
  rw [out_eq, lam_eq, hn, hv, lastStage, lastStage, (h2 _).1, (h2 _).2, h1, hq, ht, block,
    show carry (arg4.view.read (Elt F) f4) (arg5.view.read (Elt F) f5) (arg6.view.read (Elt F) f6) 11
      = takeTile _ _ _ (tileNo (2 * 5)) (carry (arg4.view.read (Elt F) f4) (arg5.view.read (Elt F) f5) (arg6.view.read (Elt F) f6) (2 * 5)) from rfl]
  rw [takeTile, carry_trip, trip_max0, trip_max1]

end

end Cert.Proof.Trip

end
-- ==== Proof.KernelIdealFrame.lean ====
/-
  The run of the attention kernel with its output named: the body obligation, the launch, what the array that the call returns
  holds block by block, every argument array unchanged and every counter at zero.
-/
module

public import proofs.«01_k».proof.Proof.Gen.KernelIdeal.Frame
public import proofs.«01_k».proof.Proof.Gen.KernelIdeal.Loops
public import proofs.«01_k».proof.Proof.Trip
public import Idealize.ShloMosaic.Lib.Claim

@[expose] public section

set_option maxRecDepth 8192
set_option maxHeartbeats 4000000

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KernelIdealBody (kernelRun held rOut)
open Idealize.ShloMosaic.Pipeline (Dat Cfg Window BodyObligation cellOf)

variable {F : FTy → Type} [FloatOps F] [Named F]

local notation "𝕄" => MT nD τ sig Unit (Elt F) ℕ (UR sig nD τ) ℕ

/-! ## The proof data: the arrays as the region finds them, the output at what the body stores -/

variable (m : (ℓ : Loc nD τ sig) → Buf (Elt F) ℓ) (ρ : Dev nD → PrngReg)

/-- The block that the body stores at point `t`, of the blocks of its inputs. -/
def outBlock (c : Dev nD) (t : Fin cfg0.N) : Vec F S1x1024x128 .f32 :=
  Spec.block (iblk m c 0 t (ix1 (n0 := 1) 0)) (iblk m c 1 t) (iblk m c 2 t) (iblk m c 3 t) (iblk m c 4 t)

/-- The proof data on core `c`: every input's block left in place, the output's block stored, the invariant the library's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- What one store through the whole buffer leaves reads back as the stored block. -/
theorem stored (v : View sig .tc .vmem S1x1024x128 .f32) (f : BufTy.Contents (Elt F) v.ty) (out : Vec F S1x1024x128 .f32) :
    v.read (Elt F) (v.writes (Elt F) f [⟨rOut, out⟩]) = out := by
  funext y
  refine View.read_writes_cons_unit_of_mem (off' := fun _ => 0) _ _ _ _ _ y y (by funext a; fin_cases a <;> rfl) fun a => ?_
  simp

/-- The body at any point: the scratch taken out of the invariant, the run, the scratch put back at what the run left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5]
  unfold Pipeline.ΦA
  rw [scopedRest0_eq]
  unfold owns
  iintro ⟨⟨⟨%f9, H9⟩, Hg⟩, Ho, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, -, H5⟩⟩
  iapply ((kernelRun c (grid0.coords t) _ _ _ _ _ _ _ _ _ _ _ _ (Memref.whole cc0_scratch0) _ f0 f1 f2 f3 f4 f9).2 f5 Set.univ _)
  isplitl [H0]; · iexact H0
  isplitl [H1]; · iexact H1
  isplitl [H2]; · iexact H2
  isplitl [H3]; · iexact H3
  isplitl [H4]; · iexact H4
  isplitl [H5]; · iexact H5
  isplitl [H9]
  · simp only [held, Memref.view_whole, View.set_whole]; iexact H9
  iintro ⟨H0, H1, H2, H3, H4, H5, ⟨%g9, H9⟩⟩
  isplitl [H9 Hg]
  · isplitl [H9]
    · iexists g9
      simp only [held, Memref.view_whole, View.set_whole]; iexact H9
    iexact Hg
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  refine (stored _ _ _).trans ((Trip.run_eq c (grid0.coords t) _ _ _ _ _ _ _ _ _ _ _ _ (Memref.whole cc0_scratch0) _ f0 f1 f2 f3 f4 f9).trans ?_)
  rw [outBlock, ← hf0, ← hf1, ← hf2, ← hf3, ← hf4]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the library theorem's implicit arguments are found by unfolding plain definitions in a metavariable's type
set_option backward.isDefEq.respectTransparency.types false in
/-- Every execution ends, every array at the contents the proof data names, every counter at zero. -/
theorem run_main : θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame with the result: the array the call returns, the argument arrays as they were, every counter zero. -/
theorem run_all : θ_run defs (onTc (τ := τ) (main (F := F))) ⟨m, fun _ => 0, ρ⟩ (fun r => (∀ c : Dev nD,
      r.2.mem ((c.tc : Thread nD τ).loc main_v8) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest := fun b hb => (h.1 c).2 b hb
  exact ⟨(h.1 c).1 5, ((h.1 c).1 1).trans (((dats m 0 c).arrAt_in 1 rfl _).trans ((A_eq m c 1).trans (V_main_arg0 m c))),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c)⟩

/-- The frame: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

end Cert.Proof.KernelIdealFrame

end
-- ==== Proof.Algebra.lean ====
/-
  The arithmetic of a softmax taken tile by tile, over the extended reals: a quantity that is carried beside a running maximum
  and rescaled whenever the maximum moves, what one more tile does to it, and the quotient that is left at the end, in which no
  maximum appears any more.
-/
module

public import Idealize.ShloMosaic.Lib.Pointwise

@[expose] public section

noncomputable section

namespace Cert.Proof.Algebra

open Idealize.ShloMosaic

/-! ## Real values among the extended reals -/

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, taken from a real or from minus infinity, is a real or the value it was taken from. -/
theorem fold_max_real {ι : Type} (s : Finset ι) (hs : s.Nonempty) (f : ι → EReal) (hf : ∀ i, ∃ r : ℝ, f i = r) :
    ∃ r : ℝ, s.fold max ⊥ f = r := by
  classical
  induction hs using Finset.Nonempty.cons_induction with
  | singleton a =>
    obtain ⟨r, hr⟩ := hf a
    exact ⟨r, by rw [Finset.fold_singleton, hr]; simp⟩
  | cons a s ha hs ih =>
    obtain ⟨r, hr⟩ := hf a
    obtain ⟨r', hr'⟩ := ih
    refine ⟨max r r', ?_⟩
    rw [Finset.fold_cons, hr, hr']
    exact (EReal.coe_strictMono.monotone.map_max).symm

/-! ## The carried quantity -/

/-- `x` is carried beside the running maximum `m` for the true value `A`: nothing was taken yet, or `x` is `A` divided by two to
    the power `m`. -/
def Held (m x : EReal) (A : ℝ) : Prop :=
  (m = ⊥ ∧ x = 0 ∧ A = 0) ∨ ∃ μ ξ : ℝ, m = μ ∧ x = ξ ∧ ξ * (2 : ℝ) ^ μ = A

theorem held_start : Held ⊥ 0 0 := .inl ⟨rfl, rfl, rfl⟩

/-- One tile more: the quantity rescaled to the new maximum `μ'`, and the tile's weighted exponentials added. -/
theorem Held.step {m x : EReal} {A : ℝ} (h : Held m x A) (μ' : ℝ) {n : ℕ} (w s : Fin n → ℝ) :
    Held μ' (Ideal.exp2 (m - (μ' : EReal)) * x + ∑ k, (w k : EReal) * Ideal.exp2 ((s k : EReal) - (μ' : EReal)))
      (A + ∑ k, w k * (2 : ℝ) ^ s k) := by
  have e : ∀ k, (w k : EReal) * Ideal.exp2 ((s k : EReal) - (μ' : EReal)) = ((w k * (2 : ℝ) ^ (s k - μ') : ℝ) : EReal) := fun k => by
    rw [← EReal.coe_sub, Ideal.exp2_coe, ← EReal.coe_mul]; rfl
  have p : ∀ y : ℝ, (2 : ℝ) ^ (y - μ') * (2 : ℝ) ^ μ' = (2 : ℝ) ^ y := fun y => by
    rw [← Real.rpow_add (by norm_num : (0 : ℝ) < 2)]; congr 1; ring
  have q : (∑ k, w k * (2 : ℝ) ^ (s k - μ')) * (2 : ℝ) ^ μ' = ∑ k, w k * (2 : ℝ) ^ s k := by
    rw [Finset.sum_mul]; exact Finset.sum_congr rfl fun k _ => by rw [mul_assoc, p]
  rw [Finset.sum_congr rfl fun k _ => e k, ← coe_sum]
  right
  rcases h with ⟨rfl, rfl, rfl⟩ | ⟨μ, ξ, rfl, rfl, rfl⟩
  · exact ⟨μ', _, rfl, by rw [mul_zero, zero_add], by rw [q, zero_add]⟩
  · refine ⟨μ', (2 : ℝ) ^ (μ - μ') * ξ + ∑ k, w k * (2 : ℝ) ^ (s k - μ'), rfl, ?_, ?_⟩
    · rw [← EReal.coe_sub, Ideal.exp2_coe, ← EReal.coe_mul, ← EReal.coe_add]; rfl
    · rw [add_mul, q, mul_right_comm, p, mul_comm]

/-- The quotient of two quantities carried beside one maximum, the lower one's true value positive, is that of their true values. -/
theorem Held.quotient {m l a : EReal} {L A : ℝ} (hl : Held m l L) (ha : Held m a A) (hL : 0 < L) :
    Ideal.div a l = ((A / L : ℝ) : EReal) := by
  rcases hl with ⟨rfl, rfl, rfl⟩ | ⟨μ, ξ, rfl, rfl, rfl⟩
  · exact absurd hL (lt_irrefl _)
  rcases ha with ⟨h, -, -⟩ | ⟨μ', ξ', h, rfl, rfl⟩
  · exact absurd h (EReal.coe_ne_bot μ)
  obtain rfl : μ = μ' := by exact_mod_cast h
  have h2 : (0 : ℝ) < (2 : ℝ) ^ μ := Real.rpow_pos_of_pos (by norm_num) μ
  have hξ : ξ ≠ 0 := fun h => by rw [h, zero_mul] at hL; exact lt_irrefl _ hL
  rw [Ideal.div_coe hξ, ← EReal.coe_mul]
  congr 1
  field_simp

/-! ## Sums cut in blocks -/

/-- A sum over `a * b` numbers, block by block. -/
theorem sum_cut {M : Type} [AddCommMonoid M] (a b n : ℕ) (h : n = a * b) (f : Fin n → M) (g : Fin a → Fin b → M)
    (hg : ∀ i j (hij : b * i.val + j.val < n), f ⟨b * i.val + j.val, hij⟩ = g i j) : ∑ k, f k = ∑ i, ∑ j, g i j := by
  subst h
  rw [← finProdFinEquiv.sum_comp, Fintype.sum_prod_type]
  refine Finset.sum_congr rfl fun i _ => Finset.sum_congr rfl fun j _ => ?_
  rw [← hg i j (by nlinarith [i.isLt, j.isLt])]
  congr 1
  exact Fin.ext (by simp [finProdFinEquiv, add_comm])

end Cert.Proof.Algebra

end
-- ==== Proof.Tile.lean ====
/-
  One tile of keys and values at the ideal instance, element by element: its scores, its weights, their sum and their product with
  the values, and what the tile makes of the carried maximum, sum and accumulator.
-/
module

public import proofs.«01_k».proof.Proof.Spec
public import proofs.«01_k».proof.Proof.Algebra
public import Idealize.ShloMosaic.Lib.Pipeline.Value

@[expose] public section

set_option maxRecDepth 8192

noncomputable section

namespace Cert.Proof.Tile

open Cert.KernelIdeal Cert.KernelIdeal.Gen Cert.Proof.Spec Cert.Proof.Algebra
open Idealize.ShloMosaic

/-- Every element is a real. -/
def IsReal {s : Shape} (x : s.Idx → EReal) : Prop := ∀ i, ∃ r : ℝ, x i = r

theorem score_apply (kt : Vec Ideal S1x1x1x768x64 .bf16) (q : FVec Ideal S1024x64 .bf16) (k : Fin 768) (i : Fin 1024) :
    score kt q (ix2 (n0 := 768) (n1 := 1024) k i)
      = ∑ d : Fin 64, kt (ix5 (n0 := 1) (n1 := 1) (n2 := 1) (n3 := 768) (n4 := 64) 0 0 0 k d) * q (ix2 (n0 := 1024) (n1 := 64) i d) := by
  pointwise [score]

theorem part_apply (m' : FVec Ideal S1x1024 .f32) (s : FVec Ideal S768x1024 .f32) (r : Fin 24) (a : Fin 8) (i : Fin 1024) :
    part m' (chunks s r) (ix2 (n0 := 8) (n1 := 1024) a i)
      = ∑ g : Fin 4, Ideal.exp2 (s (ix2 (n0 := 768) (n1 := 1024) ⟨32 * r.val + (8 * g.val + a.val), by omega⟩ i)
          - m' (ix2 (n0 := 1) (n1 := 1024) 0 i)) := by
  pointwise [part, weight, chunks]
  exact Finset.sum_congr rfl fun g _ => by
    show Ideal.exp2 _ = _; congr 4; exact Fin.ext (by simp only []; omega)

theorem fold8_real (s : FVec Ideal S768x1024 .f32) (hs : IsReal (s := S768x1024) s) : IsReal (s := S8x1024) (fold8 s) := by
  intro i
  obtain ⟨a, b, rfl⟩ : ∃ (a : Fin 8) (b : Fin 1024), i = ix2 (n0 := 8) (n1 := 1024) a b := ⟨i 0, i 1, by funext x; fin_cases x <;> rfl⟩
  pointwise [fold8]
  exact fold_max_real _ ⟨0, Finset.mem_univ _⟩ _ fun k => hs _

theorem mNew_real (m : FVec Ideal S1x1024 .f32) (mx : FVec Ideal S8x1024 .f32) (hmx : IsReal (s := S8x1024) mx) (i : Fin 1024)
    (hm : m (ix2 (n0 := 1) (n1 := 1024) 0 i) = ⊥ ∨ ∃ r : ℝ, m (ix2 (n0 := 1) (n1 := 1024) 0 i) = r) :
    ∃ μ : ℝ, mNew m mx (ix2 (n0 := 1) (n1 := 1024) 0 i) = μ := by
  pointwise [mNew]
  obtain ⟨r, hr⟩ := fold_max_real (Finset.univ : Finset (Fin 8)) ⟨0, Finset.mem_univ _⟩ (fun k => mx (ix2 (n0 := 8) (n1 := 1024) k i)) fun k => hmx _
  rcases hm with hm | ⟨μ, hm⟩
  · exact ⟨r, (congrArg₂ max hm hr).trans (max_eq_right bot_le)⟩
  · exact ⟨max μ r, (congrArg₂ max hm hr).trans EReal.coe_strictMono.monotone.map_max.symm⟩

theorem lNew_apply (m l : FVec Ideal S1x1024 .f32) (mx : FVec Ideal S8x1024 .f32) (ld : Fin 24 → Vec Ideal S1x1x32x1024 .f32) (i : Fin 1024) :
    lNew m mx l ld (ix2 (n0 := 1) (n1 := 1024) 0 i)
      = Ideal.exp2 (m (ix2 (n0 := 1) (n1 := 1024) 0 i) - mNew m mx (ix2 (n0 := 1) (n1 := 1024) 0 i)) * l (ix2 (n0 := 1) (n1 := 1024) 0 i)
        + ∑ a : Fin 8, partSum (mNew m mx) ld 23 (ix2 (n0 := 8) (n1 := 1024) a i) := by
  pointwise [lNew, alpha]
  rfl

theorem aScaled_apply (m : FVec Ideal S1x1024 .f32) (mx : FVec Ideal S8x1024 .f32) (a : FVec Ideal S128x1024 .f32) (d : Fin 128) (i : Fin 1024) :
    aScaled m mx a (ix2 (n0 := 128) (n1 := 1024) d i)
      = Ideal.exp2 (m (ix2 (n0 := 1) (n1 := 1024) 0 i) - mNew m mx (ix2 (n0 := 1) (n1 := 1024) 0 i)) * a (ix2 (n0 := 128) (n1 := 1024) d i) := by
  pointwise [aScaled, alpha]
  rfl

theorem weights_apply (m' : FVec Ideal S1x1024 .f32) (s : FVec Ideal S768x1024 .f32) (k : Fin 768) (i : Fin 1024) :
    weights m' (chunks s) (ix2 (n0 := 768) (n1 := 1024) k i)
      = Ideal.exp2 (s (ix2 (n0 := 768) (n1 := 1024) k i) - m' (ix2 (n0 := 1) (n1 := 1024) 0 i)) := by
  refine (concatenate_ofFn_apply (s₁ := S32x1024) (t := S768x1024) 0 (fun r : Fin 24 => truncf .bf16 (weight m' (chunks s r)) bitsLt_bf16_f32)
    _ rfl 32 rfl _ ⟨k.val / 32, by omega⟩ rfl
    (ix2 (n0 := 32) (n1 := 1024) ⟨k.val % 32, by omega⟩ i) rfl (fun b hb => by fin_cases b <;> first | rfl | exact absurd rfl hb)).trans ?_
  pointwise [weight, chunks]
  show Ideal.exp2 _ = _
  congr 4
  exact Fin.ext (by simp only []; omega)

theorem mixed_left (p0 p1 : FVec Ideal S768x1024 .bf16) (vt : FVec Ideal S128x768 .bf16) (d : Fin 128) (i : Fin 1024) :
    extractStridedSlice S128x1024 ![0, 0] (mixed p0 p1 vt) slices_S128x2048_o0_0_S128x1024 (ix2 (n0 := 128) (n1 := 1024) d i)
      = ∑ k : Fin 768, vt (ix2 (n0 := 128) (n1 := 768) d k) * p0 (ix2 (n0 := 768) (n1 := 1024) k i) := by
  pointwise [mixed]

theorem mixed_right (p0 p1 : FVec Ideal S768x1024 .bf16) (vt : FVec Ideal S128x768 .bf16) (d : Fin 128) (i : Fin 1024) :
    extractStridedSlice S128x1024 ![0, 1024] (mixed p0 p1 vt) slices_S128x2048_o0_1024_S128x1024 (ix2 (n0 := 128) (n1 := 1024) d i)
      = ∑ k : Fin 768, vt (ix2 (n0 := 128) (n1 := 768) d k) * p1 (ix2 (n0 := 768) (n1 := 1024) k i) := by
  pointwise [mixed]

theorem partSum_apply (m' : FVec Ideal S1x1024 .f32) (ld : Fin 24 → Vec Ideal S1x1x32x1024 .f32) (x : S8x1024.Idx) (n : ℕ) :
    partSum m' ld n x = ∑ r ∈ Finset.range (n + 1), part m' (ld (chunkNo r)) x := by
  induction n with
  | zero => rw [Finset.sum_range_one]; rfl
  | succ n ih => rw [Finset.sum_range_succ, ← ih]; rfl

/-- The partial sums of a tile's weights add up to the sum over the tile. -/
theorem partSum_total (m' : FVec Ideal S1x1024 .f32) (s : FVec Ideal S768x1024 .f32) (i : Fin 1024) :
    ∑ a : Fin 8, partSum m' (chunks s) 23 (ix2 (n0 := 8) (n1 := 1024) a i)
      = ∑ k : Fin 768, Ideal.exp2 (s (ix2 (n0 := 768) (n1 := 1024) k i) - m' (ix2 (n0 := 1) (n1 := 1024) 0 i)) := by
  rw [sum_cut 24 32 768 rfl _ (fun r b => Ideal.exp2 (s (ix2 (n0 := 768) (n1 := 1024) ⟨32 * r.val + b.val, by omega⟩ i)
    - m' (ix2 (n0 := 1) (n1 := 1024) 0 i))) fun _ _ _ => rfl]
  rw [Finset.sum_congr rfl fun a _ => partSum_apply m' (chunks s) (ix2 (n0 := 8) (n1 := 1024) a i) 23, Finset.sum_comm, Finset.sum_range]
  refine Finset.sum_congr rfl fun r _ => ?_
  rw [show chunkNo r.val = r from Fin.ext (Nat.mod_eq_of_lt r.isLt)]
  rw [sum_cut 4 8 32 rfl _ (fun g a => Ideal.exp2 (s (ix2 (n0 := 768) (n1 := 1024) ⟨32 * r.val + (8 * g.val + a.val), by omega⟩ i)
    - m' (ix2 (n0 := 1) (n1 := 1024) 0 i))) fun _ _ _ => rfl, Finset.sum_comm]
  exact Finset.sum_congr rfl fun a _ => part_apply m' s r a i

/-! ## The step -/

/-- One component's maximum, sum and accumulator stand for the sums `L` and the weighted sums `A`. -/
def Comp (m l : FVec Ideal S1x1024 .f32) (a : FVec Ideal S128x1024 .f32) (L : Fin 1024 → ℝ) (A : Fin 128 → Fin 1024 → ℝ) : Prop :=
  ∀ i, Held (m (ix2 (n0 := 1) (n1 := 1024) 0 i)) (l (ix2 (n0 := 1) (n1 := 1024) 0 i)) (L i)
    ∧ ∀ d, Held (m (ix2 (n0 := 1) (n1 := 1024) 0 i)) (a (ix2 (n0 := 128) (n1 := 1024) d i)) (A d i)

theorem held_max {m x : EReal} {A : ℝ} (h : Held m x A) : m = ⊥ ∨ ∃ r : ℝ, m = r := by
  rcases h with ⟨h, -, -⟩ | ⟨μ, ξ, h, -, -⟩
  · exact .inl h
  · exact .inr ⟨μ, h⟩

/-- A tile taken into one component: its exponentials join the sum, and weighted by the values the accumulator. -/
theorem Comp.step {m l : FVec Ideal S1x1024 .f32} {a : FVec Ideal S128x1024 .f32} {L : Fin 1024 → ℝ} {A : Fin 128 → Fin 1024 → ℝ}
    (h : Comp m l a L A) (s : FVec Ideal S768x1024 .f32) (σ : Fin 768 → Fin 1024 → ℝ)
    (hs : ∀ k i, s (ix2 (n0 := 768) (n1 := 1024) k i) = σ k i) (ν : Fin 128 → Fin 768 → ℝ) (a' : FVec Ideal S128x1024 .f32)
    (ha' : ∀ d i, a' (ix2 (n0 := 128) (n1 := 1024) d i) = aScaled m (fold8 s) a (ix2 (n0 := 128) (n1 := 1024) d i)
      + ∑ k, (ν d k : EReal) * weights (mNew m (fold8 s)) (chunks s) (ix2 (n0 := 768) (n1 := 1024) k i)) :
    Comp (mNew m (fold8 s)) (lNew m (fold8 s) l (chunks s)) a' (fun i => L i + ∑ k, (2 : ℝ) ^ σ k i)
      (fun d i => A d i + ∑ k, ν d k * (2 : ℝ) ^ σ k i) := by
  have hr : IsReal (s := S768x1024) s := fun x => by
    obtain ⟨k, i, rfl⟩ : ∃ (k : Fin 768) (i : Fin 1024), x = ix2 (n0 := 768) (n1 := 1024) k i := ⟨x 0, x 1, by funext b; fin_cases b <;> rfl⟩
    exact ⟨_, hs k i⟩
  intro i
  obtain ⟨μ, hμ⟩ := mNew_real m (fold8 s) (fold8_real s hr) i (held_max (h i).1)
  refine ⟨?_, fun d => ?_⟩
  · have e := (h i).1.step μ (fun _ => 1) (fun k => σ k i)
    rw [lNew_apply, partSum_total, hμ]
    simp only [hs]
    simpa only [EReal.coe_one, one_mul] using e
  · have e := ((h i).2 d).step μ (ν d) (fun k => σ k i)
    rw [ha', aScaled_apply]
    simp only [weights_apply, hμ, hs]
    exact e

end Cert.Proof.Tile

end
-- ==== Proof.Carry.lean ====
/-
  The whole block of a grid point at the ideal instance: over its eleven tiles the carried sums are those of all 8448 keys, their
  quotients are the softmax's weighted means, and the block is the normalized difference of the two components' means.
-/
module

public import proofs.«01_k».proof.Proof.Tile

@[expose] public section

set_option maxRecDepth 8192

noncomputable section

namespace Cert.Proof.Carry

open Cert.KernelIdeal Cert.KernelIdeal.Gen Cert.Proof.Spec Cert.Proof.Algebra Cert.Proof.Tile
open Idealize.ShloMosaic

/-- Column `d` of component `c` among the 128 columns of a head. -/
def col (c : Fin 2) (d : Fin 64) : Fin 128 := ⟨64 * c.val + d.val, by omega⟩

/-- Key `k` of tile `j`. -/
def key (j : Fin 11) (k : Fin 768) : Fin 8448 := ⟨768 * j.val + k.val, by omega⟩

/-! ## The mathematics -/

/-- The score of a query row against a key row. -/
def dot (q k : Fin 64 → ℝ) : ℝ := ∑ d, q d * k d

/-- The softmax's sum for one component. -/
def total (q : Fin 64 → ℝ) (k : Fin 8448 → Fin 64 → ℝ) : ℝ := ∑ j, Real.exp (dot q (k j) / 8)

/-- The softmax's sum for one component, weighted by one column of the values. -/
def weighted (q : Fin 64 → ℝ) (k : Fin 8448 → Fin 64 → ℝ) (v : Fin 8448 → ℝ) : ℝ := ∑ j, v j * Real.exp (dot q (k j) / 8)

/-- The difference of the two components' weighted means, in one column of the values. -/
def attend (q : Fin 2 → Fin 64 → ℝ) (k : Fin 2 → Fin 8448 → Fin 64 → ℝ) (v : Fin 8448 → ℝ) (lam : ℝ) : ℝ :=
  weighted (q 0) (k 0) v / total (q 0) (k 0) - lam * (weighted (q 1) (k 1) v / total (q 1) (k 1))

/-- A row of 128 reals normalized by its root mean square, in column `d`, times the column's weight. -/
def normRow (o : Fin 128 → ℝ) (w : EReal) (d : Fin 128) : EReal :=
  (o d : EReal) * Ideal.rsqrt (Ideal.div (∑ e, (o e : EReal) * (o e : EReal)) (Ideal.ofBits .f32 0x43000000#32) + Ideal.ofBits .f32 0x358637BD#32)
    * (w * Ideal.ofBits .f32 0x3F4CCCCD#32)

theorem total_pos (q : Fin 64 → ℝ) (k : Fin 8448 → Fin 64 → ℝ) : 0 < total q k :=
  Finset.sum_pos (fun _ _ => Real.exp_pos _) ⟨0, Finset.mem_univ _⟩

/-! ## The scaled queries -/

/-- The exponent to base two of a query row against a key row, the query scaled first. -/
def expo (q k : Fin 64 → ℝ) : ℝ := ∑ d, k d * (q d * (8 * Real.log 2)⁻¹)

theorem two_pow_expo (q k : Fin 64 → ℝ) : (2 : ℝ) ^ expo q k = Real.exp (dot q k / 8) := by
  have h2 : Real.log 2 ≠ 0 := (Real.log_pos (by norm_num)).ne'
  have e : expo q k = dot q k * (8 * Real.log 2)⁻¹ := by
    rw [expo, dot, Finset.sum_mul]; exact Finset.sum_congr rfl fun d _ => by ring
  rw [Real.rpow_def_of_pos (by norm_num), e]
  congr 1
  field_simp

theorem scaled0 (Q : Vec Ideal S1x1024x128 .f32) (i : Fin 1024) (d : Fin 64) :
    k0_pay253 Q (ix2 (n0 := 1024) (n1 := 64) i d)
      = Q (ix3 (n0 := 1) (n1 := 1024) (n2 := 128) 0 i (col 0 d)) * (((8 * Real.log 2)⁻¹ : ℝ) : EReal) := by
  pointwise [k0_pay253, k0_pay252, col]
  rfl

theorem scaled1 (Q : Vec Ideal S1x1024x128 .f32) (i : Fin 1024) (d : Fin 64) :
    k0_pay254 Q (ix2 (n0 := 1024) (n1 := 64) i d)
      = Q (ix3 (n0 := 1) (n1 := 1024) (n2 := 128) 0 i (col 1 d)) * (((8 * Real.log 2)⁻¹ : ℝ) : EReal) := by
  pointwise [k0_pay254, k0_pay252, col]
  rfl

section Block

variable (Q : Vec Ideal S1x1024x128 .f32) (K : Vec Ideal S1x1x2x8448x64 .bf16) (V : Vec Ideal S1x1x11x128x768 .bf16)
variable (q : Fin 1024 → Fin 2 → Fin 64 → ℝ) (k : Fin 2 → Fin 8448 → Fin 64 → ℝ) (v : Fin 8448 → Fin 128 → ℝ)
variable (hQ : ∀ i c d, Q (ix3 (n0 := 1) (n1 := 1024) (n2 := 128) 0 i (col c d)) = q i c d)
variable (hK : ∀ c j d, K (ix5 (n0 := 1) (n1 := 1) (n2 := 2) (n3 := 8448) (n4 := 64) 0 0 c j d) = k c j d)
variable (hV : ∀ j d a, V (ix5 (n0 := 1) (n1 := 1) (n2 := 11) (n3 := 128) (n4 := 768) 0 0 j d a) = v (key j a) d)

include hQ hK in
theorem score0_real (j : Fin 11) (a : Fin 768) (i : Fin 1024) :
    score0 Q K j (ix2 (n0 := 768) (n1 := 1024) a i) = (expo (q i 0) (k 0 (key j a)) : EReal) := by
  rw [score0, score_apply, expo, coe_sum]
  refine Finset.sum_congr rfl fun d _ => ?_
  rw [scaled0, hQ, EReal.coe_mul, EReal.coe_mul, ← hK]
  rfl

include hQ hK in
theorem score1_real (j : Fin 11) (a : Fin 768) (i : Fin 1024) :
    score1 Q K j (ix2 (n0 := 768) (n1 := 1024) a i) = (expo (q i 1) (k 1 (key j a)) : EReal) := by
  rw [score1, score_apply, expo, coe_sum]
  refine Finset.sum_congr rfl fun d _ => ?_
  rw [scaled1, hQ, EReal.coe_mul, EReal.coe_mul, ← hK]
  rfl

theorem vTile_apply (j : Fin 11) (d : Fin 128) (a : Fin 768) :
    vTile (vtTile V j) (ix2 (n0 := 128) (n1 := 768) d a) = V (ix5 (n0 := 1) (n1 := 1) (n2 := 11) (n3 := 128) (n4 := 768) 0 0 j d a) := by
  pointwise [vTile, vtTile]

/-- The sums of the first `n` tiles. -/
def partial_ (w : Fin 8448 → ℝ) (n : ℕ) : ℝ := ∑ j ∈ Finset.range n, ∑ a, w (key (tileNo j) a)

theorem partial_all (w : Fin 8448 → ℝ) : partial_ w 11 = ∑ j, w j := by
  rw [partial_, Finset.sum_range, sum_cut 11 768 8448 rfl w (fun j a => w (key j a)) fun _ _ _ => rfl]
  exact Finset.sum_congr rfl fun j _ => by rw [show tileNo j.val = j from Fin.ext (Nat.mod_eq_of_lt j.isLt)]

/-- One component's carry stands for the first `n` tiles. -/
def Stands (c : Fin 2) (n : ℕ) (m l : FVec Ideal S1x1024 .f32) (a : FVec Ideal S128x1024 .f32) : Prop :=
  Comp m l a (fun i => partial_ (fun j => (2 : ℝ) ^ expo (q i c) (k c j)) n)
    (fun d i => partial_ (fun j => v j d * (2 : ℝ) ^ expo (q i c) (k c j)) n)

include hQ hK hV in
theorem carry_stands (n : ℕ) :
    Stands q k v 0 n (carry Q K V n).1 (carry Q K V n).2.1 (carry Q K V n).2.2.1
      ∧ Stands q k v 1 n (carry Q K V n).2.2.2.1 (carry Q K V n).2.2.2.2.1 (carry Q K V n).2.2.2.2.2 := by
  induction n with
  | zero =>
    have h0 : ∀ c, Stands q k v c 0 k0_pay255 k0_pay256 k0_pay257 := fun c i => by
      have e1 : (k0_pay255 : FVec Ideal S1x1024 .f32) (ix2 (n0 := 1) (n1 := 1024) 0 i) = ⊥ := rfl
      have e2 : (k0_pay256 : FVec Ideal S1x1024 .f32) (ix2 (n0 := 1) (n1 := 1024) 0 i) = 0 := by pointwise [k0_pay256]
      have e3 : ∀ d, (k0_pay257 : FVec Ideal S128x1024 .f32) (ix2 (n0 := 128) (n1 := 1024) d i) = 0 := fun d => by pointwise [k0_pay257]
      have e : ∀ w, partial_ w 0 = 0 := fun w => Finset.sum_range_zero _
      simp only [e, e1, e2, e3]
      exact ⟨held_start, fun _ => held_start⟩
    exact ⟨h0 0, h0 1⟩
  | succ n ih =>
    obtain ⟨h0, h1⟩ := ih
    have hv : ∀ d a, vTile (vtTile V (tileNo n)) (ix2 (n0 := 128) (n1 := 768) d a) = (v (key (tileNo n) a) d : EReal) := fun d a => by
      rw [vTile_apply, hV]
    constructor
    · have e := h0.step (score0 Q K (tileNo n)) _ (score0_real Q K q k hQ hK (tileNo n)) (fun d a => v (key (tileNo n) a) d)
        (carry Q K V (n + 1)).2.2.1 (fun d i => by
          simp only [← hv]
          rw [← mixed_left _ (weights (mNew (carry Q K V n).2.2.2.1 (fold8 (score1 Q K (tileNo n)))) (chunks (score1 Q K (tileNo n))))]
          rfl)
      simp only [Stands, partial_, Finset.sum_range_succ]
      exact e
    · have e := h1.step (score1 Q K (tileNo n)) _ (score1_real Q K q k hQ hK (tileNo n)) (fun d a => v (key (tileNo n) a) d)
        (carry Q K V (n + 1)).2.2.2.2.2 (fun d i => by
          simp only [← hv]
          rw [← mixed_right (weights (mNew (carry Q K V n).1 (fold8 (score0 Q K (tileNo n)))) (chunks (score0 Q K (tileNo n))))]
          rfl)
      simp only [Stands, partial_, Finset.sum_range_succ]
      exact e

/-- After the last tile the quotients are the softmax's weighted means. -/
theorem Stands.mean {c : Fin 2} {m l : FVec Ideal S1x1024 .f32} {a : FVec Ideal S128x1024 .f32} (h : Stands q k v c 11 m l a)
    (d : Fin 128) (i : Fin 1024) :
    Ideal.div (a (ix2 (n0 := 128) (n1 := 1024) d i)) (l (ix2 (n0 := 1) (n1 := 1024) 0 i))
      = ((weighted (q i c) (k c) (fun j => v j d) / total (q i c) (k c) : ℝ) : EReal) := by
  have hl := (h i).1
  have ha := (h i).2 d
  simp only [partial_all, two_pow_expo] at hl ha
  exact hl.quotient ha (total_pos (q i c) (k c))

include hQ hK hV in
theorem diff_real (lam : EReal) (r : ℝ) (hlam : lam = r) (d : Fin 128) (i : Fin 1024) :
    diff (F := Ideal) lam (carry Q K V 11) (ix2 (n0 := 128) (n1 := 1024) d i) = (attend (q i) k (fun j => v j d) r : EReal) := by
  obtain ⟨h0, h1⟩ := carry_stands Q K V q k v hQ hK hV 11
  have e0 := h0.mean q k v d i
  have e1 := h1.mean q k v d i
  generalize carry Q K V 11 = z at e0 e1 ⊢
  pointwise [diff]
  rw [e0, e1, hlam, attend, EReal.coe_sub, EReal.coe_mul]

theorem finish_apply (lam : EReal) (nw : Vec Ideal S128x1 .f32) (z : Spec.Carry Ideal) (i : Fin 1024) (d : Fin 128) :
    finish (F := Ideal) lam nw z (ix3 (n0 := 1) (n1 := 1024) (n2 := 128) 0 i d)
      = diff (F := Ideal) lam z (ix2 (n0 := 128) (n1 := 1024) d i)
        * Ideal.rsqrt (Ideal.div (∑ e : Fin 128, diff (F := Ideal) lam z (ix2 (n0 := 128) (n1 := 1024) e i) * diff (F := Ideal) lam z (ix2 (n0 := 128) (n1 := 1024) e i))
            (Ideal.ofBits .f32 0x43000000#32) + Ideal.ofBits .f32 0x358637BD#32)
        * (nw (ix2 (n0 := 128) (n1 := 1) d 0) * Ideal.ofBits .f32 0x3F4CCCCD#32) := by
  pointwise [finish, normed, rms]

include hQ hK hV in
/-- What a grid point stores: in row `i` the normalized row of the attention's differences. -/
theorem block_apply (lam : EReal) (r : ℝ) (hlam : lam = r) (nw : Vec Ideal S128x1 .f32) (i : Fin 1024) (d : Fin 128) :
    block (F := Ideal) lam Q K V nw (ix3 (n0 := 1) (n1 := 1024) (n2 := 128) 0 i d)
      = normRow (fun e => attend (q i) k (fun j => v j e) r) (nw (ix2 (n0 := 128) (n1 := 1) d 0)) d := by
  rw [block, finish_apply]
  simp only [diff_real Q K V q k v hQ hK hV lam r hlam]
  rfl

end Block

end Cert.Proof.Carry

end
-- ==== Proof.Consts.lean ====
/-
  The reference's factor on the scores, as a real.
-/
module

public import Idealize.ShloMosaic.PureOps.Ideal

@[expose] public section

noncomputable section

namespace Cert.Proof.Consts

open Idealize.ShloMosaic

/-- The factor on the scores is an eighth. -/
theorem ofBits_eighth : Ideal.ofBits .f32 0x3E000000#32 = ((8⁻¹ : ℝ) : EReal) := by
  simp [Ideal.ofBits, Ideal.ieee, -EReal.coe_mul]; norm_num

end Cert.Proof.Consts

end
-- ==== Proof.RefValue.lean ====
/-
  What the reference computes, element by element: the normalized row of the attention's differences, the softmax taken over whole
  rows of scores.
-/
module

public import proofs.«01_k».proof.Proof.Gen.ReferenceIdeal.Run
public import proofs.«01_k».proof.Proof.Carry
public import proofs.«01_k».proof.Proof.Consts

@[expose] public section

set_option maxRecDepth 8192

noncomputable section

namespace Cert.Proof.RefValue

open Cert.ReferenceIdeal Cert.ReferenceIdeal.Gen Cert.Proof.Algebra Cert.Proof.Carry
open Idealize.ShloMosaic Idealize.ShloMosaic.TcCoe

/-! ## The reference in its steps -/

/-- The scores, divided by eight. -/
def scores (A0 : FVec Ideal S2x8192x512 .f32) (A1 : FVec Ideal S2x8448x512 .f32) : FVec Ideal S2x4x2x8192x8448 .f32 :=
  mulf (Host.dotGeneral dot_S2x8192x4x2x64_S2x8448x4x2x64_S2x4x2x8192x8448_4_4_1_1_023_023 none
      (shapeCast _ A0 shapeCasts_S2x8192x512_S2x8192x4x2x64) (shapeCast _ A1 shapeCasts_S2x8448x512_S2x8448x4x2x64))
    (broadcastInDim S2x4x2x8192x8448 ![] bcast_S_S2x4x2x8192x8448 (constant S_ .f32 0x3E000000#32))

/-- The rows' maxima. -/
def maxes (s : FVec Ideal S2x4x2x8192x8448 .f32) : FVec Ideal S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8448_S2x4x2x8192_d4 h_S_)

/-- The exponentials of the scores less their row's maximum. -/
def exps (s : FVec Ideal S2x4x2x8192x8448 .f32) : FVec Ideal S2x4x2x8192x8448 .f32 :=
  Host.exp (subf s (broadcastInDim S2x4x2x8192x8448 ![0, 1, 2, 3, 4] bcast_S2x4x2x8192x1_S2x4x2x8192x8448_0_1_2_3_4
    (broadcastInDim S2x4x2x8192x1 ![0, 1, 2, 3] bcast_S2x4x2x8192_S2x4x2x8192x1_0_1_2_3 (maxes s))))

/-- The softmax. -/
def probs (s : FVec Ideal S2x4x2x8192x8448 .f32) : FVec Ideal S2x4x2x8192x8448 .f32 :=
  Host.divf (exps s) (broadcastInDim S2x4x2x8192x8448 ![0, 1, 2, 3, 4] bcast_S2x4x2x8192x1_S2x4x2x8192x8448_0_1_2_3_4
    (broadcastInDim S2x4x2x8192x1 ![0, 1, 2, 3] bcast_S2x4x2x8192_S2x4x2x8192x1_0_1_2_3
      (Host.reduceAdd (exps s) (constant S_ .f32 0x00000000#32) reducesTo_S2x4x2x8192x8448_S2x4x2x8192_d4 h_S_)))

/-- The difference of the two components' probabilities. -/
def diffs (p : FVec Ideal S2x4x2x8192x8448 .f32) (lam : FVec Ideal S_ .f32) : FVec Ideal S2x4x8192x8448 .f32 :=
  subf (shapeCast _ (extractStridedSlice S2x4x1x8192x8448 ![0, 0, 0, 0, 0] p slices_S2x4x2x8192x8448_S2x4x1x8192x8448_0_0_0_0_0)
      shapeCasts_S2x4x1x8192x8448_S2x4x8192x8448)
    (mulf (broadcastInDim S2x4x8192x8448 ![] bcast_S_S2x4x8192x8448 lam)
      (shapeCast _ (extractStridedSlice S2x4x1x8192x8448 ![0, 0, 1, 0, 0] p slices_S2x4x2x8192x8448_S2x4x1x8192x8448_0_0_1_0_0)
        shapeCasts_S2x4x1x8192x8448_S2x4x8192x8448))

/-- The values against them. -/
def outs (A2 : FVec Ideal S2x8448x512 .f32) (a : FVec Ideal S2x4x8192x8448 .f32) : FVec Ideal S2x8192x4x128 .f32 :=
  transpose S2x8192x4x128 [0, 3, 1, 2]
    (Host.dotGeneral dot_S2x8448x4x128_S2x4x8192x8448_S2x4x128x8192_1_3_3_2_02_01 none
      (shapeCast _ A2 shapeCasts_S2x8448x512_S2x8448x4x128) a : FVec Ideal S2x4x128x8192 .f32) transposes_S2x4x128x8192_S2x8192x4x128_0_3_1_2

/-- The rows normalized, weighted and scaled. -/
def norms (o : FVec Ideal S2x8192x4x128 .f32) (nw : FVec Ideal S128 .f32) : FVec Ideal S2x8192x512 .f32 :=
  shapeCast _ (mulf (mulf (mulf o (broadcastInDim S2x8192x4x128 ![0, 1, 2, 3] bcast_S2x8192x4x1_S2x8192x4x128_0_1_2_3
      (Host.rsqrt (addf (Host.divf (broadcastInDim S2x8192x4x1 ![0, 1, 2] bcast_S2x8192x4_S2x8192x4x1_0_1_2
          (Host.reduceAdd (mulf o o) (constant S_ .f32 0x00000000#32) reducesTo_S2x8192x4x128_S2x8192x4_d3 h_S_))
          (broadcastInDim S2x8192x4x1 ![] bcast_S_S2x8192x4x1 (constant S_ .f32 0x43000000#32)))
        (broadcastInDim S2x8192x4x1 ![] bcast_S_S2x8192x4x1 (constant S_ .f32 0x358637BD#32))))))
      (broadcastInDim S2x8192x4x128 ![0, 1, 2, 3] bcast_S1x1x1x128_S2x8192x4x128_0_1_2_3
        (broadcastInDim S1x1x1x128 ![3] bcast_S128_S1x1x1x128_3 nw)))
    (broadcastInDim S2x8192x4x128 ![] bcast_S_S2x8192x4x128 (constant S_ .f32 0x3F4CCCCD#32))) shapeCasts_S2x8192x4x128_S2x8192x512

theorem result_eq (m : (ℓ : Loc nD τ sig) → Buf (Elt Ideal) ℓ) (c : Dev nD) :
    Cert.ReferenceIdeal.Value.res_main_v41 (F := Ideal) m c
      = norms (outs (m ((c.tc : Thread nD τ).loc main_arg2))
          (diffs (probs (scores (m ((c.tc : Thread nD τ).loc main_arg0)) (m ((c.tc : Thread nD τ).loc main_arg1)))) (m ((c.tc : Thread nD τ).loc main_arg3))))
        (m ((c.tc : Thread nD τ).loc main_arg4)) := rfl

/-! ## Element by element -/

/-- Column `x` of head `h` among the 512 columns. -/
def lane (h : Fin 4) (x : Fin 128) : Fin 512 := ⟨128 * h.val + x.val, by omega⟩

theorem scores_apply (A0 : FVec Ideal S2x8192x512 .f32) (A1 : FVec Ideal S2x8448x512 .f32) (b : Fin 2) (h : Fin 4) (c : Fin 2) (i : Fin 8192)
    (j : Fin 8448) :
    scores A0 A1 (ix5 (n0 := 2) (n1 := 4) (n2 := 2) (n3 := 8192) (n4 := 8448) b h c i j)
      = (∑ d : Fin 64, A0 (ix3 (n0 := 2) (n1 := 8192) (n2 := 512) b i (lane h (col c d)))
          * A1 (ix3 (n0 := 2) (n1 := 8448) (n2 := 512) b j (lane h (col c d)))) * Ideal.ofBits .f32 0x3E000000#32 := by
  pointwise [scores]
  congr 1
  refine Finset.sum_congr rfl fun d _ => ?_
  have e : (⟨h.val * 128 + c.val * 64 + d.val, by omega⟩ : Fin 512) = lane h (col c d) := Fin.ext (by simp only [lane, col]; omega)
  rw [e]

theorem probs_apply (s : FVec Ideal S2x4x2x8192x8448 .f32) (b : Fin 2) (h : Fin 4) (c : Fin 2) (i : Fin 8192) (j : Fin 8448) :
    probs s (ix5 (n0 := 2) (n1 := 4) (n2 := 2) (n3 := 8192) (n4 := 8448) b h c i j)
      = Ideal.div (exps s (ix5 (n0 := 2) (n1 := 4) (n2 := 2) (n3 := 8192) (n4 := 8448) b h c i j))
        (∑ k : Fin 8448, exps s (ix5 (n0 := 2) (n1 := 4) (n2 := 2) (n3 := 8192) (n4 := 8448) b h c i k)) := by
  pointwise [probs]

theorem exps_apply (s : FVec Ideal S2x4x2x8192x8448 .f32) (b : Fin 2) (h : Fin 4) (c : Fin 2) (i : Fin 8192) (j : Fin 8448) :
    exps s (ix5 (n0 := 2) (n1 := 4) (n2 := 2) (n3 := 8192) (n4 := 8448) b h c i j)
      = Ideal.exp (s (ix5 (n0 := 2) (n1 := 4) (n2 := 2) (n3 := 8192) (n4 := 8448) b h c i j)
        - maxes s (ix4 (n0 := 2) (n1 := 4) (n2 := 2) (n3 := 8192) b h c i)) := by
  pointwise [exps]

/-- The maximum of finitely many reals, taken from minus infinity by the float operation. -/
theorem fold_maximumf_real {ι : Type} (s : Finset ι) (hs : s.Nonempty) (f : ι → Ideal .f32) (hf : ∀ i, ∃ r : ℝ, f i = (r : EReal)) (b : Ideal .f32)
    (hb : b = (⊥ : EReal)) : ∃ r : ℝ, s.fold (FloatOps.maximumf (F := Ideal) (φ := .f32)) b f = (r : EReal) := by
  subst hb; exact fold_max_real s hs f hf

/-- The last axis is what is reduced. -/
theorem red : S2x4x2x8192x8448.Reduces [4] S2x4x2x8192 := by decide

/-- The host's maximum over a row, as a fold. -/
theorem max_fold (s : FVec Ideal S2x4x2x8192x8448 .f32) (x : S2x4x2x8192.Idx) :
    Host.reduce FloatOps.maximumf s (constant S_ .f32 0xFF800000#32) reducesTo_S2x4x2x8192x8448_S2x4x2x8192_d4 h_S_ x
     = (Finset.univ : Finset (Fin (S2x4x2x8192x8448.size 4))).fold FloatOps.maximumf (constant (F := Ideal) S_ .f32 0xFF800000#32 (Shape.Idx.first h_S_)) (s ∘ red.lift x) :=
  Host.reduce_eq_fold_single (a := 4) _ _ _ _ red _ _

theorem row_nonempty : (Finset.univ : Finset (Fin (S2x4x2x8192x8448.size 4))).Nonempty := ⟨⟨0, by decide⟩, Finset.mem_univ _⟩

theorem start_bot : (constant (F := Ideal) S_ .f32 0xFF800000#32 (Shape.Idx.first h_S_)) = (⊥ : EReal) := rfl

/-- The host's maximum over a row of reals is real. -/
theorem red_real (s : FVec Ideal S2x4x2x8192x8448 .f32) (hs : ∀ x, ∃ r : ℝ, s x = (r : EReal)) (x : S2x4x2x8192.Idx) :
  ∃ r : ℝ, Host.reduce FloatOps.maximumf s (constant S_ .f32 0xFF800000#32) reducesTo_S2x4x2x8192x8448_S2x4x2x8192_d4 h_S_ x
      = (r : EReal) := by
    rw [max_fold]
    exact fold_maximumf_real _ row_nonempty _ (fun j => hs _) _ start_bot

/-- The maximum of an array and minus infinity, at an index. -/
theorem max_apply (y : FVec Ideal S2x4x2x8192 .f32) (x : S2x4x2x8192.Idx) :
    maximumf (broadcastInDim S2x4x2x8192 ![] bcast_S_S2x4x2x8192 (constant S_ .f32 0xFF800000#32)) y x
      = FloatOps.maximumf (F := Ideal) (φ := .f32) (Ideal.ofBits .f32 0xFF800000#32) (y x) := rfl

/-- The larger of minus infinity and a real is the real. -/
theorem bot_max (r : ℝ) : FloatOps.maximumf (F := Ideal) (φ := .f32) (Ideal.ofBits .f32 0xFF800000#32) (r : EReal) = (r : EReal) :=
  max_eq_right (bot_le : (⊥ : EReal) ≤ r)

/-- The rows' maxima of real scores are real. -/
theorem maxes_real (s : FVec Ideal S2x4x2x8192x8448 .f32) (hs : ∀ x, ∃ r : ℝ, s x = (r : EReal)) (x : S2x4x2x8192.Idx) :
    ∃ r : ℝ, maxes s x = (r : EReal) := by
  obtain ⟨r, hr⟩ := red_real s hs x
  unfold maxes
  exact ⟨r, (max_apply _ x).trans ((congrArg _ hr).trans (bot_max r))⟩

theorem diffs_apply (p : FVec Ideal S2x4x2x8192x8448 .f32) (lam : FVec Ideal S_ .f32) (b : Fin 2) (h : Fin 4) (i : Fin 8192) (j : Fin 8448) :
    diffs p lam (ix4 (n0 := 2) (n1 := 4) (n2 := 8192) (n3 := 8448) b h i j)
      = p (ix5 (n0 := 2) (n1 := 4) (n2 := 2) (n3 := 8192) (n4 := 8448) b h 0 i j)
        - lam ix0 * p (ix5 (n0 := 2) (n1 := 4) (n2 := 2) (n3 := 8192) (n4 := 8448) b h 1 i j) := by
  pointwise [diffs]

theorem outs_apply (A2 : FVec Ideal S2x8448x512 .f32) (a : FVec Ideal S2x4x8192x8448 .f32) (b : Fin 2) (i : Fin 8192) (h : Fin 4) (d : Fin 128) :
    outs A2 a (ix4 (n0 := 2) (n1 := 8192) (n2 := 4) (n3 := 128) b i h d)
      = ∑ j : Fin 8448, A2 (ix3 (n0 := 2) (n1 := 8448) (n2 := 512) b j (lane h d)) * a (ix4 (n0 := 2) (n1 := 4) (n2 := 8192) (n3 := 8448) b h i j) := by
  pointwise [outs]
  refine Finset.sum_congr rfl fun j _ => ?_
  congr 2
  exact congrArg _ (Fin.ext (by simp only [lane]; omega))

theorem norms_apply (o : FVec Ideal S2x8192x4x128 .f32) (nw : FVec Ideal S128 .f32) (b : Fin 2) (i : Fin 8192) (h : Fin 4) (d : Fin 128) :
    norms o nw (ix3 (n0 := 2) (n1 := 8192) (n2 := 512) b i (lane h d))
      = o (ix4 (n0 := 2) (n1 := 8192) (n2 := 4) (n3 := 128) b i h d)
        * Ideal.rsqrt (Ideal.div (∑ e : Fin 128, o (ix4 (n0 := 2) (n1 := 8192) (n2 := 4) (n3 := 128) b i h e) * o (ix4 (n0 := 2) (n1 := 8192) (n2 := 4) (n3 := 128) b i h e))
            (Ideal.ofBits .f32 0x43000000#32) + Ideal.ofBits .f32 0x358637BD#32)
        * nw (ix1 (n0 := 128) d) * Ideal.ofBits .f32 0x3F4CCCCD#32 := by
  pointwise [norms, lane]

/-! ## At real arguments -/

section Real

variable (A0 : FVec Ideal S2x8192x512 .f32) (A1 A2 : FVec Ideal S2x8448x512 .f32) (A3 : FVec Ideal S_ .f32) (A4 : FVec Ideal S128 .f32)
variable (q : Fin 2 → Fin 8192 → Fin 512 → ℝ) (k v : Fin 2 → Fin 8448 → Fin 512 → ℝ) (r : ℝ)
variable (h0 : ∀ b i x, A0 (ix3 (n0 := 2) (n1 := 8192) (n2 := 512) b i x) = (q b i x : EReal))
variable (h1 : ∀ b j x, A1 (ix3 (n0 := 2) (n1 := 8448) (n2 := 512) b j x) = (k b j x : EReal))
variable (h2 : ∀ b j x, A2 (ix3 (n0 := 2) (n1 := 8448) (n2 := 512) b j x) = (v b j x : EReal))
variable (h3 : A3 ix0 = (r : EReal))

/-- The query row of batch `b`, head `h`, row `i`, in its two components. -/
def qRow (b : Fin 2) (h : Fin 4) (i : Fin 8192) (c : Fin 2) (d : Fin 64) : ℝ := q b i (lane h (col c d))

/-- The key rows of batch `b`, head `h`, in their two components. -/
def kRows (b : Fin 2) (h : Fin 4) (c : Fin 2) (j : Fin 8448) (d : Fin 64) : ℝ := k b j (lane h (col c d))

include h0 h1 in
theorem scores_real (b : Fin 2) (h : Fin 4) (c : Fin 2) (i : Fin 8192) (j : Fin 8448) :
    scores A0 A1 (ix5 (n0 := 2) (n1 := 4) (n2 := 2) (n3 := 8192) (n4 := 8448) b h c i j)
      = ((Carry.dot (qRow q b h i c) (kRows k b h c j) / 8 : ℝ) : EReal) := by
  rw [scores_apply, Consts.ofBits_eighth, div_eq_mul_inv, EReal.coe_mul, Carry.dot, coe_sum]
  congr 1
  exact Finset.sum_congr rfl fun d _ => by rw [h0, h1, EReal.coe_mul]; rfl

include h0 h1 in
theorem scores_isReal (x : S2x4x2x8192x8448.Idx) : ∃ s : ℝ, scores A0 A1 x = (s : EReal) := by
  obtain ⟨b, h, c, i, j, rfl⟩ : ∃ (b : Fin 2) (h : Fin 4) (c : Fin 2) (i : Fin 8192) (j : Fin 8448),
      x = ix5 (n0 := 2) (n1 := 4) (n2 := 2) (n3 := 8192) (n4 := 8448) b h c i j :=
    ⟨x 0, x 1, x 2, x 3, x 4, by funext a; fin_cases a <;> rfl⟩
  exact ⟨_, scores_real A0 A1 q k h0 h1 b h c i j⟩

/-- A common factor of a quotient cancels. -/
theorem cancel (x y z : ℝ) (hy : y ≠ 0) (hz : z ≠ 0) : x * z * (1 / (y * z)) = x / y := by field_simp

include h0 h1 in
theorem probs_real (b : Fin 2) (h : Fin 4) (c : Fin 2) (i : Fin 8192) (j : Fin 8448) :
    probs (scores A0 A1) (ix5 (n0 := 2) (n1 := 4) (n2 := 2) (n3 := 8192) (n4 := 8448) b h c i j)
      = ((Real.exp (Carry.dot (qRow q b h i c) (kRows k b h c j) / 8) / total (qRow q b h i c) (kRows k b h c) : ℝ) : EReal) := by
  obtain ⟨M, hM⟩ := maxes_real (scores A0 A1) (scores_isReal A0 A1 q k h0 h1) (ix4 (n0 := 2) (n1 := 4) (n2 := 2) (n3 := 8192) b h c i)
  have e : ∀ j, exps (scores A0 A1) (ix5 (n0 := 2) (n1 := 4) (n2 := 2) (n3 := 8192) (n4 := 8448) b h c i j)
      = ((Real.exp (Carry.dot (qRow q b h i c) (kRows k b h c j) / 8) * Real.exp (-M) : ℝ) : EReal) := fun j => by
    rw [exps_apply, scores_real A0 A1 q k h0 h1, hM, ← EReal.coe_sub, Ideal.exp_coe, ← Real.exp_add, sub_eq_add_neg]
  have ht := total_pos (qRow q b h i c) (kRows k b h c)
  have hE := Real.exp_pos (-M)
  rw [probs_apply, Finset.sum_congr rfl fun j _ => e j, e, ← coe_sum, ← Finset.sum_mul]
  rw [show ∑ j, Real.exp (Carry.dot (qRow q b h i c) (kRows k b h c j) / 8) = total (qRow q b h i c) (kRows k b h c) from rfl]
  rw [Ideal.div_coe (mul_pos ht hE).ne', ← EReal.coe_mul]
  exact congrArg _ (cancel _ _ _ ht.ne' hE.ne')

include h0 h1 h2 h3 in
theorem outs_real (b : Fin 2) (i : Fin 8192) (h : Fin 4) (d : Fin 128) :
    outs A2 (diffs (probs (scores A0 A1)) A3) (ix4 (n0 := 2) (n1 := 8192) (n2 := 4) (n3 := 128) b i h d)
      = (attend (qRow q b h i) (kRows k b h) (fun j => v b j (lane h d)) r : EReal) := by
  rw [outs_apply]
  have e : ∀ j, A2 (ix3 (n0 := 2) (n1 := 8448) (n2 := 512) b j (lane h d))
        * diffs (probs (scores A0 A1)) A3 (ix4 (n0 := 2) (n1 := 4) (n2 := 8192) (n3 := 8448) b h i j)
      = ((v b j (lane h d) * Real.exp (Carry.dot (qRow q b h i 0) (kRows k b h 0 j) / 8) / total (qRow q b h i 0) (kRows k b h 0)
          - r * (v b j (lane h d) * Real.exp (Carry.dot (qRow q b h i 1) (kRows k b h 1 j) / 8) / total (qRow q b h i 1) (kRows k b h 1)) : ℝ) : EReal) := fun j => by
    rw [diffs_apply, h2, h3, probs_real A0 A1 q k h0 h1, probs_real A0 A1 q k h0 h1, ← EReal.coe_mul, ← EReal.coe_sub, ← EReal.coe_mul]
    congr 1
    ring
  rw [Finset.sum_congr rfl fun j _ => e j, ← coe_sum, attend, weighted, weighted, Finset.sum_sub_distrib, ← Finset.mul_sum,
    Finset.sum_div, Finset.sum_div]

include h0 h1 h2 h3 in
/-- The reference's result at batch `b`, row `i`, column `d` of head `h`. -/
theorem reference_apply (b : Fin 2) (i : Fin 8192) (h : Fin 4) (d : Fin 128) :
    norms (outs A2 (diffs (probs (scores A0 A1)) A3)) A4 (ix3 (n0 := 2) (n1 := 8192) (n2 := 512) b i (lane h d))
      = normRow (fun e => attend (qRow q b h i) (kRows k b h) (fun j => v b j (lane h e)) r) (A4 (ix1 (n0 := 128) d)) d := by
  rw [norms_apply]
  simp only [outs_real A0 A1 A2 A3 q k v r h0 h1 h2 h3]
  rw [normRow, mul_assoc]

end Real

end Cert.Proof.RefValue

end
-- ==== Proof.Result.lean ====
/-
  The array the attention kernel returns: each grid point's block read off the argument arrays, and the array put together from the
  blocks.
-/
module

public import proofs.«01_k».proof.Proof.KernelIdealFrame
public import proofs.«01_k».proof.Proof.RefValue
public import Idealize.ShloMosaic.Lib.Pipeline.ValueKit
public import Idealize.ShloMosaic.Lib.StableHlo.ReadAt

@[expose] public section

set_option maxRecDepth 8192

noncomputable section

namespace Cert.Proof.Result

open Cert.KernelIdeal Cert.KernelIdeal.Gen Cert.Proof.Algebra Cert.Proof.Carry Cert.Proof.RefValue Cert.Proof.KernelIdealFrame
open Idealize.ShloMosaic Idealize.ShloMosaic.TcCoe

variable (m : (ℓ : Loc nD τ sig) → Buf (Elt Ideal) ℓ) (c : Dev nD)

/-! ## The arrays the windows stage -/

theorem V_lam : V m c main_v6 (ix1 (n0 := 1) 0) = m ((c : Thread nD τ).loc main_arg3) ix0 := by
  unfold V; after_reads_at

theorem V_keys (b : Fin 2) (h : Fin 4) (e : Fin 2) (j : Fin 8448) (d : Fin 64) :
    V m c main_v2 (ix5 (n0 := 2) (n1 := 4) (n2 := 2) (n3 := 8448) (n4 := 64) b h e j d)
      = m ((c : Thread nD τ).loc main_arg1) (ix3 (n0 := 2) (n1 := 8448) (n2 := 512) b j (lane h (col e d))) := by
  unfold V; after_reads_at
  exact congrArg (fun x => m ((c : Thread nD τ).loc main_arg1) (ix3 (n0 := 2) (n1 := 8448) (n2 := 512) b j x))
    (Fin.ext (by simp only [lane, col]; omega))

theorem V_values (b : Fin 2) (h : Fin 4) (j : Fin 11) (d : Fin 128) (a : Fin 768) :
    V m c main_v5 (ix5 (n0 := 2) (n1 := 4) (n2 := 11) (n3 := 128) (n4 := 768) b h j d a)
      = m ((c : Thread nD τ).loc main_arg2) (ix3 (n0 := 2) (n1 := 8448) (n2 := 512) b (key j a) (lane h d)) := by
  unfold V; after_reads_at
  exact congrArg₂ (fun y x => m ((c : Thread nD τ).loc main_arg2) (ix3 (n0 := 2) (n1 := 8448) (n2 := 512) b y x))
    (Fin.ext (by simp only [key]; omega)) (Fin.ext (by simp only [lane]; omega))

theorem V_norm (d : Fin 128) :
    V m c main_v7 (ix2 (n0 := 128) (n1 := 1) d 0) = m ((c : Thread nD τ).loc main_arg4) (ix1 (n0 := 128) d) := by
  unfold V; after_reads_at

/-! ## The blocks -/

/-- Where each window's block lies at a point. -/
theorem idx (t : Fin cfg0.N) :
    win0_0.index t = ![0]
    ∧ win0_1.index t = ![(grid0.coords t 0).val, (grid0.coords t 2).val, (grid0.coords t 1).val]
    ∧ win0_2.index t = ![(grid0.coords t 0).val, (grid0.coords t 1).val, 0, 0, 0]
    ∧ win0_3.index t = ![(grid0.coords t 0).val, (grid0.coords t 1).val, 0, 0, 0]
    ∧ win0_4.index t = ![0, 0]
    ∧ win0_5.index t = ![(grid0.coords t 0).val, (grid0.coords t 2).val, (grid0.coords t 1).val] := by
  revert t; decide +kernel

/-- The point's batch, head and row block. -/
def bOf (t : Fin cfg0.N) : Fin 2 := grid0.coords t 0
def hOf (t : Fin cfg0.N) : Fin 4 := grid0.coords t 1
def iOf (t : Fin cfg0.N) : Fin 8 := grid0.coords t 2

/-- Row `i` of the point's row block. -/
def rowOf (t : Fin cfg0.N) (i : Fin 1024) : Fin 8192 := ⟨1024 * (iOf t).val + i.val, by have := (iOf t).isLt; omega⟩

theorem lam_block (t : Fin cfg0.N) : iblk m c 0 t (ix1 (n0 := 1) 0) = m ((c : Thread nD τ).loc main_arg3) ix0 := by
  rw [← V_lam m c]
  blk_ext [iblk, (idx t).1]

theorem query_block (t : Fin cfg0.N) (i : Fin 1024) (x : Fin 128) :
    iblk m c 1 t (ix3 (n0 := 1) (n1 := 1024) (n2 := 128) 0 i x)
      = m ((c : Thread nD τ).loc main_arg0) (ix3 (n0 := 2) (n1 := 8192) (n2 := 512) (bOf t) (rowOf t i) (lane (hOf t) x)) := by
  rw [← V_main_arg0 m c]
  blk_ext [iblk, (idx t).2.1, bOf, rowOf, hOf, iOf, lane]

theorem key_block (t : Fin cfg0.N) (e : Fin 2) (j : Fin 8448) (d : Fin 64) :
    iblk m c 2 t (ix5 (n0 := 1) (n1 := 1) (n2 := 2) (n3 := 8448) (n4 := 64) 0 0 e j d)
      = m ((c : Thread nD τ).loc main_arg1) (ix3 (n0 := 2) (n1 := 8448) (n2 := 512) (bOf t) j (lane (hOf t) (col e d))) := by
  rw [← V_keys m c]
  blk_ext [iblk, (idx t).2.2.1, bOf, hOf]

theorem value_block (t : Fin cfg0.N) (j : Fin 11) (d : Fin 128) (a : Fin 768) :
    iblk m c 3 t (ix5 (n0 := 1) (n1 := 1) (n2 := 11) (n3 := 128) (n4 := 768) 0 0 j d a)
      = m ((c : Thread nD τ).loc main_arg2) (ix3 (n0 := 2) (n1 := 8448) (n2 := 512) (bOf t) (key j a) (lane (hOf t) d)) := by
  rw [← V_values m c]
  blk_ext [iblk, (idx t).2.2.2.1, bOf, hOf]

theorem norm_block (t : Fin cfg0.N) (d : Fin 128) :
    iblk m c 4 t (ix2 (n0 := 128) (n1 := 1) d 0) = m ((c : Thread nD τ).loc main_arg4) (ix1 (n0 := 128) d) := by
  rw [← V_norm m c]
  blk_ext [iblk, (idx t).2.2.2.2.1]

/-! ## The array -/

section Real

variable (q : Fin 2 → Fin 8192 → Fin 512 → ℝ) (k v : Fin 2 → Fin 8448 → Fin 512 → ℝ) (r : ℝ)
  (h0 : ∀ b i x, m ((c : Thread nD τ).loc main_arg0) (ix3 (n0 := 2) (n1 := 8192) (n2 := 512) b i x) = (q b i x : EReal))
  (h1 : ∀ b j x, m ((c : Thread nD τ).loc main_arg1) (ix3 (n0 := 2) (n1 := 8448) (n2 := 512) b j x) = (k b j x : EReal))
  (h2 : ∀ b j x, m ((c : Thread nD τ).loc main_arg2) (ix3 (n0 := 2) (n1 := 8448) (n2 := 512) b j x) = (v b j x : EReal))
  (h3 : m ((c : Thread nD τ).loc main_arg3) ix0 = (r : EReal))

include h0 h1 h2 h3 in
/-- The block a point leaves, at row `i` and column `d`: the normalized attention row. -/
theorem outBlock_apply (t : Fin cfg0.N) (i : Fin 1024) (d : Fin 128) :
    outBlock m c t (ix3 (n0 := 1) (n1 := 1024) (n2 := 128) 0 i d)
      = normRow (fun e => attend (qRow q (bOf t) (hOf t) (rowOf t i)) (kRows k (bOf t) (hOf t)) (fun j => v (bOf t) j (lane (hOf t) e)) r)
          (m ((c : Thread nD τ).loc main_arg4) (ix1 (n0 := 128) d)) d := by
  rw [← norm_block m c t d]
  exact block_apply (iblk m c 1 t) (iblk m c 2 t) (iblk m c 3 t) (fun i => qRow q (bOf t) (hOf t) (rowOf t i)) (kRows k (bOf t) (hOf t))
    (fun j e => v (bOf t) j (lane (hOf t) e))
    (fun i e x => (query_block m c t i _).trans (h0 _ _ _)) (fun e j x => (key_block m c t e j x).trans (h1 _ _ _))
    (fun j x a => (value_block m c t j x a).trans (h2 _ _ _)) _ r ((lam_block m c t).trans h3) (iblk m c 4 t) i d

include h0 h1 h2 h3 in
/-- The array the kernel returns is the reference's of the same arguments. -/
theorem array_eq : (dats m 0 c).arrAt 5 cfg0.N
    = norms (outs (m ((c : Thread nD τ).loc main_arg2)) (diffs (probs (scores (m ((c : Thread nD τ).loc main_arg0)) (m ((c : Thread nD τ).loc main_arg1))))
        (m ((c : Thread nD τ).loc main_arg3)))) (m ((c : Thread nD τ).loc main_arg4)) := by
  refine (dats m 0 c).arrAt_eq_of_covers 5 _ (by decide +kernel) fun t hf y => ?_
  obtain ⟨i, d, rfl⟩ : ∃ (i : Fin 1024) (d : Fin 128), y = ix3 (n0 := 1) (n1 := 1024) (n2 := 128) 0 i d :=
    ⟨y 1, y 2, by funext a; fin_cases a <;> first | rfl | exact Subsingleton.elim (α := Fin 1) _ _⟩
  have e : ((cfg0.win 5).blk t).view.emb (ix3 (n0 := 1) (n1 := 1024) (n2 := 128) 0 i d)
      = ix3 (n0 := 2) (n1 := 8192) (n2 := 512) (bOf t) (rowOf t i) (lane (hOf t) d) := by
    blk_ext [(idx t).2.2.2.2.2, bOf, rowOf, hOf, iOf, lane]
  rw [e]
  refine Eq.trans ?_ (reference_apply _ _ _ _ _ q k v r h0 h1 h2 h3 (bOf t) (rowOf t i) (hOf t) d).symm
  refine Eq.trans ?_ (outBlock_apply m c q k v r h0 h1 h2 h3 t i d)
  blk_simp
  rw [after0_5]

end Real

end Cert.Proof.Result

end
-- ==== Proof.Finite.lean ====
/-
  What the precondition says: every element of the queries, keys and values, and lambda, is a real number.
-/
module

public import proofs.«01_k».proof.Defs
public import proofs.«01_k».proof.Proof.Consts
public import Idealize.ShloMosaic.Lib.ReduceAll
public import Idealize.ShloMosaic.Lib.Affine
public import Idealize.ShloMosaic.Lib.Decide
public import Idealize.ShloMosaic.Lib.Pipeline.ValueKit

@[expose] public section

noncomputable section

namespace Cert.Proof.Finite

open Idealize.ShloMosaic

/-- The shapes of the precondition's operations agree. -/
theorem facts : Cert.Pre_finite.Facts := by
  constructor <;> decide

/-- An extended real whose absolute value is below the largest one is a real. -/
theorem real_of_cmp (x : Ideal .f32) (h : Ideal.cmp .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by show ¬ Ideal.cmp .olt (max _ (-_)) ⊤ = 1#1; simp [Ideal.cmp])
  | coe r => exact ⟨r, rfl⟩
  | top => exact absurd h (by show ¬ Ideal.cmp .olt (max _ (-_)) ⊤ = 1#1; simp [Ideal.cmp])

instance : Subsingleton Cert.Pre_finite.S_.Idx := ⟨fun _ _ => funext fun a => a.elim0⟩

/-- Under the precondition the queries, the keys, the values and lambda are real. -/
theorem reals [Cert.Pre_finite.Facts] (A0 : FVec Ideal Cert.Pre_finite.S2x8192x512 .f32) (A1 A2 : FVec Ideal Cert.Pre_finite.S2x8448x512 .f32)
    (A3 : FVec Ideal Cert.Pre_finite.S_ .f32) (A4 : FVec Ideal Cert.Pre_finite.S128 .f32)
    (h : Cert.Pre_finite.fn (F := Ideal) A0 A1 A2 A3 A4 = fun _ => 1#1) :
    (∀ x, ∃ r : ℝ, A0 x = (r : EReal)) ∧ (∀ x, ∃ r : ℝ, A1 x = (r : EReal)) ∧ (∀ x, ∃ r : ℝ, A2 x = (r : EReal))
      ∧ ∃ r : ℝ, A3 ix0 = (r : EReal) := by
  have e := congrFun h ix0
  obtain ⟨e, e3⟩ := IntOp.andi_eq_one.1 e
  obtain ⟨e, e2⟩ := IntOp.andi_eq_one.1 e
  obtain ⟨e0, e1⟩ := IntOp.andi_eq_one.1 e
  exact ⟨fun x => real_of_cmp _ (Host.reduce_andi_all _ _ _ _ _ e0 x), fun x => real_of_cmp _ (Host.reduce_andi_all _ _ _ _ _ e1 x),
    fun x => real_of_cmp _ (Host.reduce_andi_all _ _ _ _ _ e2 x), real_of_cmp _ e3⟩

end Cert.Proof.Finite

end
-- ==== Proof.ProjFrame.lean ====
/-
  The frame of the input projection: the body obligation with the output windows forgotten, the launch, and every argument array
  unchanged with every counter at zero.
-/
module

public import proofs.«01_k».proof.Proof.Gen.Kernel2.Frame
public import proofs.«01_k».proof.Proof.Gen.Kernel2.Points
public import proofs.«01_k».proof.Proof.ProjBody
public import Idealize.ShloMosaic.Lib.Claim

@[expose] public section

set_option maxRecDepth 8192
set_option maxHeartbeats 4000000

noncomputable section

namespace Cert.Proof.ProjBody

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data: the arrays as the region finds them, the outputs forgotten -/

variable (m : (ℓ : Loc nD τ sig) → Buf (Elt F) ℓ) (ρ : Dev nD → PrngReg)

/-- The output windows are forgotten: nothing in this module says what the kernel leaves there. -/
def forgets0 : Fin 6 → Bool := fun w => w = 4 || w = 5

/-- The proof data on core `c`: every input's block left in place, the outputs' unnamed, the invariant the library's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at any point: the scratch taken out of the invariant, the run, the scratch put back at what the run left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scopedRest0_eq]
  unfold owns
  iintro ⟨⟨⟨%f9, H9⟩, Hg⟩, Ho, ⟨%d0, %f0, %hf0, H0⟩, ⟨%d1, %f1, %hf1, H1⟩, ⟨%d2, %f2, %hf2, H2⟩, ⟨%d3, %f3, %hf3, H3⟩,
    ⟨%d4, %f4, -, H4⟩, ⟨%d5, %f5, -, H5⟩⟩
  by_cases hi : k0_cond1 (grid0.coords t) = 1#1
  · iapply ((firstRun c (grid0.coords t) _ _ _ _ _ _ _ _ _ _ _ _ (Memref.whole cc0_scratch0) _ f0 f1 f2 f3 f9 hi).2 f4 f5 Set.univ _)
    isplitl [H0]; · iexact H0
    isplitl [H1]; · iexact H1
    isplitl [H2]; · iexact H2
    isplitl [H3]; · iexact H3
    isplitl [H4]; · iexact H4
    isplitl [H5]; · iexact H5
    isplitl [H9]
    · simp only [held, Memref.view_whole, View.set_whole]; iexact H9
    iintro ⟨H0, H1, H2, H3, H4, H5, H9⟩
    isplitl [H9 Hg]
    · isplitl [H9]
      · iexists _
        simp only [held, Memref.view_whole, View.set_whole]; iexact H9
      iexact Hg
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists _; iexists _; isplitr
      swap; · iexact H4
      ipureintro; rfl
    iexists _; iexists _; isplitr
    swap; · iexact H5
    ipureintro; rfl
  · iapply ((laterRun c (grid0.coords t) _ _ _ _ _ _ _ _ _ _ _ _ (Memref.whole cc0_scratch0) _ f0 f1 f2 f3 f9 hi).2 f4 f5 Set.univ _)
    isplitl [H0]; · iexact H0
    isplitl [H1]; · iexact H1
    isplitl [H2]; · iexact H2
    isplitl [H3]; · iexact H3
    isplitl [H4]; · iexact H4
    isplitl [H5]; · iexact H5
    isplitl [H9]
    · simp only [held, Memref.view_whole, View.set_whole]; iexact H9
    iintro ⟨H0, H1, H2, H3, H4, H5, H9⟩
    isplitl [H9 Hg]
    · isplitl [H9]
      · iexists _
        simp only [held, Memref.view_whole, View.set_whole]; iexact H9
      iexact Hg
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists _; iexists _; isplitr
      swap; · iexact H4
      ipureintro; rfl
    iexists _; iexists _; isplitr
    swap; · iexact H5
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the library theorem's implicit arguments are found by unfolding plain definitions in a metavariable's type
set_option backward.isDefEq.respectTransparency.types false in
/-- Every execution ends, every array that is no output as the region found it, every counter at zero. -/
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest := fun b hb => (h.1 c).2 b hb
  exact ⟨(rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c)⟩

end Cert.Proof.ProjBody

end
-- ==== Proof.ProjIdealBody.lean ====
/-
  The body of the input projection (`Kernel2Ideal`), run once at symbolic operands in each of its two cases: at the first column tile of a
  row block, where the modulated rows and the decay columns are stored before the product, and at a later one, where the product
  alone is. What the run stores is the run's own find (`firstRun`, `laterRun`), terms over the contents of the windows.
-/
module

public import proofs.«01_k».proof.Proof.Gen.Kernel2Ideal.Frame
public import proofs.«01_k».proof.Proof.Gen.Kernel2Ideal.Skeleton
public import Idealize.ShloMosaic.Lib.Claim

@[expose] public section

set_option maxRecDepth 8192
set_option maxHeartbeats 4000000

noncomputable section

namespace Cert.Proof.ProjIdealBody

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s elements on core `c` held at the contents `f`. -/
abbrev held (c : Dev nD) {sp : Space} {S : Shape} {e : EltTy} (M : Memref sig .tc sp S e) (f : BufTy.Contents (Elt F) M.view.ty) : sProp 𝕄 :=
  M.view.loc (c : Thread nD τ) ↦[M.view.set]{fullShare} f

/-- The whole block of the projection's window. -/
abbrev rOut : Rect S1536x768 := Rect.unit (s := S1536x768) ![0, 0] S1536x768.size inb_S1536x768_S1536x768_0_0

section

variable (c : Dev nD) (i : grid0.Coords)
    (arg2 : Memref sig .tc .vmem S1536x1024 .f32) (harg2 : arg2.IsWhole)
    (arg3 : Memref sig .tc .vmem S6x6x1024 .f32) (harg3 : arg3.IsWhole)
    (arg4 : Memref sig .tc .vmem S1024x768 .bf16) (harg4 : arg4.IsWhole)
    (arg5 : Memref sig .tc .vmem S1024x128 .bf16) (harg5 : arg5.IsWhole)
    (arg6 : Memref sig .tc .vmem S1536x768 .bf16) (harg6 : arg6.IsWhole)
    (arg7 : Memref sig .tc .vmem S1536x128 .f32) (harg7 : arg7.IsWhole)
    (arg8 : Memref sig .tc .vmem S1536x1024 .bf16) (harg8 : arg8.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f8 : BufTy.Contents (Elt F) arg8.view.ty)

/-- The first column tile: the windows and the scratch held, the kernel runs to its return handing back the inputs as they were
    and each of the outputs and the scratch with pieces stored over it. -/
@[irreducible] def firstRun (hi : k0_cond1 i = 1#1) :
    { p : Vec F S1536x768 .bf16 × List (View.Piece (Elt F) S1536x128 .f32) × List (View.Piece (Elt F) S1536x1024 .bf16) //
      ∀ (f6 : BufTy.Contents (Elt F) arg6.view.ty) (f7 : BufTy.Contents (Elt F) arg7.view.ty) (E : Set ℕ) (K : PUnit → sProp 𝕄),
      iprop(held c arg2 f2 ∗ held c arg3 f3 ∗ held c arg4 f4 ∗ held c arg5 f5 ∗ held c arg6 f6 ∗ held c arg7 f7 ∗ held c arg8 f8
        ∗ (iprop(held c arg2 f2 ∗ held c arg3 f3 ∗ held c arg4 f4 ∗ held c arg5 f5
            ∗ held c arg6 (arg6.view.writes (Elt F) f6 [⟨rOut, p.1⟩]) ∗ held c arg7 (arg7.view.writes (Elt F) f7 p.2.1)
            ∗ held c arg8 (arg8.view.writes (Elt F) f8 p.2.2)) -∗ K ⟨⟩))
      ⊢ wp frame (wpE (defs₀ (F := F)) Variants.none c none) E
          (cc0_ln_mod_matmul i arg2 harg2 arg3 harg3 arg4 harg4 arg5 harg5 arg6 harg6 arg7 harg7 arg8 harg8) K } := by
  refine ⟨⟨?_, ?_, ?_⟩, fun f6 f7 E K => ?run⟩
  case run =>
    simp only [cc0_ln_mod_matmul_eq_skeleton]; unfold cc0_ln_mod_matmul_skel
    iintro ⟨H2, H3, H4, H5, H6, H7, H8, Hk⟩
    rw [dif_pos hi]
    simp only [k0_part1_eq_skeleton, k0_part2_eq_skeleton, k0_part3_eq_skeleton, k0_part4_eq_skeleton, k0_part5_eq_skeleton]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    iexact H8

/-- A later column tile: only the projection's window is stored. -/
@[irreducible] def laterRun (hi : ¬ k0_cond1 i = 1#1) :
    { out : Vec F S1536x768 .bf16 //
      ∀ (f6 : BufTy.Contents (Elt F) arg6.view.ty) (f7 : BufTy.Contents (Elt F) arg7.view.ty) (E : Set ℕ) (K : PUnit → sProp 𝕄),
      iprop(held c arg2 f2 ∗ held c arg3 f3 ∗ held c arg4 f4 ∗ held c arg5 f5 ∗ held c arg6 f6 ∗ held c arg7 f7 ∗ held c arg8 f8
        ∗ (iprop(held c arg2 f2 ∗ held c arg3 f3 ∗ held c arg4 f4 ∗ held c arg5 f5
            ∗ held c arg6 (arg6.view.writes (Elt F) f6 [⟨rOut, out⟩]) ∗ held c arg7 f7
            ∗ held c arg8 f8) -∗ K ⟨⟩))
      ⊢ wp frame (wpE (defs₀ (F := F)) Variants.none c none) E
          (cc0_ln_mod_matmul i arg2 harg2 arg3 harg3 arg4 harg4 arg5 harg5 arg6 harg6 arg7 harg7 arg8 harg8) K } := by
  refine ⟨?_, fun f6 f7 E K => ?run⟩
  case run =>
    simp only [cc0_ln_mod_matmul_eq_skeleton]; unfold cc0_ln_mod_matmul_skel
    iintro ⟨H2, H3, H4, H5, H6, H7, H8, Hk⟩
    rw [dif_neg hi]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    iexact H8

end

end Cert.Proof.ProjIdealBody

end
-- ==== Proof.ProjRun.lean ====
/-
  The input projection's block in closed form: the modulated rows and the decay columns of a row block, of its tokens, its
  modulation rows and the decay weights, and the product of the rows with a column tile of the weights; and that the kernel's two
  runs store exactly these.
-/
module

public import proofs.«01_k».proof.Proof.ProjIdealBody
public import Idealize.ShloMosaic.Lib.Pointwise
public import Idealize.ShloMosaic.Lib.WritesUnit
public import Idealize.ShloMosaic.Lib.Pipeline.ValueKit.Basic

@[expose] public section

set_option maxRecDepth 8192
set_option maxHeartbeats 4000000

noncomputable section

namespace Cert.Proof.ProjRun

open Cert.Kernel2Ideal Cert.Kernel2Ideal.Gen
open Idealize.ShloMosaic Idealize.ShloMosaic.TcCoe
open Cert.Proof.ProjIdealBody (rOut firstRun laterRun)

variable {F : FTy → Type} [FloatOps F]

/-! ## The block -/

/-- Slice `s` of a row block: its rows `256 s` to `256 s + 255`. -/
def rows (X : Vec F S1536x1024 .f32) (s : Fin 6) : Vec F S256x1024 .f32 := fun z =>
  X (ix2 (n0 := 1536) (n1 := 1024) ⟨256 * s.val + (z 0).val, by have : (z 0).val < 256 := (z 0).isLt; omega⟩ (z 1))

/-- Modulation row `k` of slice `s`. -/
def modRow (M : Vec F S6x6x1024 .f32) (s k : Fin 6) : Vec F S1x1x1024 .f32 := fun z =>
  M (ix3 (n0 := 6) (n1 := 6) (n2 := 1024) s k (z 2))

/-- The slice a row lies in, and the row within it. -/
def sliceOf (r : Fin 1536) : Fin 6 := ⟨r.val / 256, by omega⟩
def rowIn (r : Fin 1536) : Fin 256 := ⟨r.val % 256, by omega⟩

/-- The modulated rows of a slice. -/
def hRows (X : Vec F S1536x1024 .f32) (M : Vec F S6x6x1024 .f32) (s : Fin 6) : Vec F S256x1024 .bf16 :=
  k0_pay6 (rows X s) (modRow M s 1) (modRow M s 0)

/-- The decay columns of a slice. -/
def gRows (X : Vec F S1536x1024 .f32) (M : Vec F S6x6x1024 .f32) (W : Vec F S1024x128 .bf16) (s : Fin 6) : Vec F S256x128 .f32 :=
  k0_pay7 (rows X s) (modRow M s 1) (modRow M s 0) W

/-- The modulated rows of a row block. -/
def hBlock (X : Vec F S1536x1024 .f32) (M : Vec F S6x6x1024 .f32) : Vec F S1536x1024 .bf16 := fun y =>
  hRows X M (sliceOf (y 0)) (ix2 (n0 := 256) (n1 := 1024) (rowIn (y 0)) (y 1))

/-- The decay columns of a row block. -/
def gBlock (X : Vec F S1536x1024 .f32) (M : Vec F S6x6x1024 .f32) (W : Vec F S1024x128 .bf16) : Vec F S1536x128 .f32 := fun y =>
  gRows X M W (sliceOf (y 0)) (ix2 (n0 := 256) (n1 := 128) (rowIn (y 0)) (y 1))

/-! ## What the loads read and the stores leave -/

theorem load_rows (arg2 : Memref sig .tc .vmem S1536x1024 .f32) (f : BufTy.Contents (Elt F) arg2.view.ty) (s : Fin 6)
    (off : Fin 2 → ℕ) (h : ∀ a, off a + S256x1024.size a ≤ S1536x1024.size a) (hoff : off = ![256 * s.val, 0]) :
    View.readAt (Elt F) arg2.view (Rect.unit (s := S1536x1024) off S256x1024.size h).toLoadRect f
      = rows (arg2.view.read (Elt F) f) s := by
  subst hoff
  funext x
  rw [View.readAt_apply]
  refine congrArg (arg2.view.read (Elt F) f) (funext fun a => Fin.ext ?_)
  match a with
  | ⟨0, _⟩ => show 256 * s.val + 1 * (x 0).val = 256 * s.val + (x 0).val; omega
  | ⟨1, _⟩ => show 0 + 1 * (x 1).val = (x 1).val; omega

theorem load_mod (arg3 : Memref sig .tc .vmem S6x6x1024 .f32) (f : BufTy.Contents (Elt F) arg3.view.ty) (s k : Fin 6)
    (off : Fin 3 → ℕ) (h : ∀ a, off a + S1x1x1024.size a ≤ S6x6x1024.size a) (hoff : off = ![s.val, k.val, 0]) :
    View.readAt (Elt F) arg3.view (Rect.unit (s := S6x6x1024) off S1x1x1024.size h).toLoadRect f
      = modRow (arg3.view.read (Elt F) f) s k := by
  subst hoff
  funext x
  rw [View.readAt_apply]
  refine congrArg (arg3.view.read (Elt F) f) (funext fun a => Fin.ext ?_)
  have h0 : (x 0).val = 0 := by have : (x 0).val < 1 := (x 0).isLt; omega
  have h1 : (x 1).val = 0 := by have : (x 1).val < 1 := (x 1).isLt; omega
  match a with
  | ⟨0, _⟩ => show s.val + 1 * (x 0).val = s.val; omega
  | ⟨1, _⟩ => show k.val + 1 * (x 1).val = k.val; omega
  | ⟨2, _⟩ => show 0 + 1 * (x 2).val = (x 2).val; omega

theorem load_gates (arg5 : Memref sig .tc .vmem S1024x128 .bf16) (f : BufTy.Contents (Elt F) arg5.view.ty)
    (h : ∀ a, (![0, 0] : Fin 2 → ℕ) a + S1024x128.size a ≤ S1024x128.size a) :
    View.readAt (Elt F) arg5.view (Rect.unit (s := S1024x128) ![0, 0] S1024x128.size h).toLoadRect f = arg5.view.read (Elt F) f := by
  rw [View.readAt_eq_ld]; exact View.ld_unit_lit (S := S1024x128) _ _ (by decide)

theorem load_tile (arg4 : Memref sig .tc .vmem S1024x768 .bf16) (f : BufTy.Contents (Elt F) arg4.view.ty)
    (h : ∀ a, (![0, 0] : Fin 2 → ℕ) a + S1024x768.size a ≤ S1024x768.size a) :
    View.readAt (Elt F) arg4.view (Rect.unit (s := S1024x768) ![0, 0] S1024x768.size h).toLoadRect f = arg4.view.read (Elt F) f := by
  rw [View.readAt_eq_ld]; exact View.ld_unit_lit (S := S1024x768) _ _ (by decide)

theorem load_scratch (arg8 : Memref sig .tc .vmem S1536x1024 .bf16) (f : BufTy.Contents (Elt F) arg8.view.ty)
    (h : ∀ a, (![0, 0] : Fin 2 → ℕ) a + S1536x1024.size a ≤ S1536x1024.size a) :
    View.readAt (Elt F) arg8.view (Rect.unit (s := S1536x1024) ![0, 0] S1536x1024.size h).toLoadRect f = arg8.view.read (Elt F) f := by
  rw [View.readAt_eq_ld]; exact View.ld_unit_lit (S := S1536x1024) _ _ (by decide)

/-- The rectangle of slice `s` in an array of 1536 rows. -/
abbrev rRows (n : ℕ) (o : ℕ) (h : ∀ a, (![o, 0] : Fin 2 → ℕ) a + (⟨2, ![256, n]⟩ : Shape).size a ≤ (⟨2, ![1536, n]⟩ : Shape).size a) : Rect (⟨2, ![1536, n]⟩ : Shape) :=
  Rect.unit (s := (⟨2, ![1536, n]⟩ : Shape)) ![o, 0] (⟨2, ![256, n]⟩ : Shape).size h

theorem slice_hit {n : ℕ} {e : EltTy} {sp : Space} (v : View sig .tc sp (⟨2, ![1536, n]⟩ : Shape) e) (f : BufTy.Contents (Elt F) v.ty) (o : ℕ) (h)
    (w : (⟨2, ![256, n]⟩ : Shape).Idx → Elt F e) (L : List (View.Piece (Elt F) (⟨2, ![1536, n]⟩ : Shape) e)) (s : Fin 6) (y : (⟨2, ![1536, n]⟩ : Shape).Idx)
    (ho : o = 256 * s.val) (hs : sliceOf (y 0) = s) :
    v.read (Elt F) (v.writes (Elt F) f (⟨rRows n o h, w⟩ :: L)) y = w (ix2 (n0 := 256) (n1 := n) (rowIn (y 0)) (y 1)) := by
  refine View.read_writes_cons_unit_of_mem v f h w L y (ix2 (n0 := 256) (n1 := n) (rowIn (y 0)) (y 1)) rfl fun a => ?_
  have hy : (y 0).val / 256 = s.val := congrArg Fin.val hs
  match a with
  | ⟨0, _⟩ => show (y 0).val = o + (y 0).val % 256; omega
  | ⟨1, _⟩ => show (y 1).val = 0 + (y 1).val; omega

theorem slice_miss {n : ℕ} {e : EltTy} {sp : Space} (v : View sig .tc sp (⟨2, ![1536, n]⟩ : Shape) e) (f : BufTy.Contents (Elt F) v.ty) (o : ℕ) (h)
    (w : (⟨2, ![256, n]⟩ : Shape).Idx → Elt F e) (L : List (View.Piece (Elt F) (⟨2, ![1536, n]⟩ : Shape) e)) (s : Fin 6) (y : (⟨2, ![1536, n]⟩ : Shape).Idx)
    (ho : o = 256 * s.val) (hs : sliceOf (y 0) ≠ s) :
    v.read (Elt F) (v.writes (Elt F) f (⟨rRows n o h, w⟩ :: L)) y = v.read (Elt F) (v.writes (Elt F) f L) y := by
  refine View.read_writes_cons_unit_of_not_mem v f h w L y rfl 0 ?_
  have hy : (y 0).val / 256 ≠ s.val := fun e => hs (Fin.ext e)
  show (y 0).val < o ∨ o + 256 ≤ (y 0).val
  omega

/-- Six slices stored one after the other read back, at a row, as its slice's. -/
theorem six {n : ℕ} {e : EltTy} {sp : Space} (v : View sig .tc sp (⟨2, ![1536, n]⟩ : Shape) e) (f : BufTy.Contents (Elt F) v.ty)
    (h0 h1 h2 h3 h4 h5) (P : Fin 6 → (⟨2, ![256, n]⟩ : Shape).Idx → Elt F e) :
    v.read (Elt F) (v.writes (Elt F) f [⟨rRows n 1280 h5, P 5⟩, ⟨rRows n 1024 h4, P 4⟩, ⟨rRows n 768 h3, P 3⟩,
        ⟨rRows n 512 h2, P 2⟩, ⟨rRows n 256 h1, P 1⟩, ⟨rRows n 0 h0, P 0⟩])
      = fun y => P (sliceOf (y 0)) (ix2 (n0 := 256) (n1 := n) (rowIn (y 0)) (y 1)) := by
  funext y
  by_cases c5 : sliceOf (y 0) = 5
  · rw [slice_hit v f 1280 h5 _ _ 5 y rfl c5, c5]
  rw [slice_miss v f 1280 h5 _ _ 5 y rfl c5]
  by_cases c4 : sliceOf (y 0) = 4
  · rw [slice_hit v f 1024 h4 _ _ 4 y rfl c4, c4]
  rw [slice_miss v f 1024 h4 _ _ 4 y rfl c4]
  by_cases c3 : sliceOf (y 0) = 3
  · rw [slice_hit v f 768 h3 _ _ 3 y rfl c3, c3]
  rw [slice_miss v f 768 h3 _ _ 3 y rfl c3]
  by_cases c2 : sliceOf (y 0) = 2
  · rw [slice_hit v f 512 h2 _ _ 2 y rfl c2, c2]
  rw [slice_miss v f 512 h2 _ _ 2 y rfl c2]
  by_cases c1 : sliceOf (y 0) = 1
  · rw [slice_hit v f 256 h1 _ _ 1 y rfl c1, c1]
  rw [slice_miss v f 256 h1 _ _ 1 y rfl c1]
  have c0 : sliceOf (y 0) = 0 := by
    generalize sliceOf (y 0) = s at *
    revert s; decide
  rw [slice_hit v f 0 h0 _ _ 0 y rfl c0, c0]

/-! ## The runs -/

section

variable (c : Dev nD) (i : grid0.Coords)
    (arg2 : Memref sig .tc .vmem S1536x1024 .f32) (harg2 : arg2.IsWhole)
    (arg3 : Memref sig .tc .vmem S6x6x1024 .f32) (harg3 : arg3.IsWhole)
    (arg4 : Memref sig .tc .vmem S1024x768 .bf16) (harg4 : arg4.IsWhole)
    (arg5 : Memref sig .tc .vmem S1024x128 .bf16) (harg5 : arg5.IsWhole)
    (arg6 : Memref sig .tc .vmem S1536x768 .bf16) (harg6 : arg6.IsWhole)
    (arg7 : Memref sig .tc .vmem S1536x128 .f32) (harg7 : arg7.IsWhole)
    (arg8 : Memref sig .tc .vmem S1536x1024 .bf16) (harg8 : arg8.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f8 : BufTy.Contents (Elt F) arg8.view.ty)

/-- The pieces the first run stores into the scratch: the slices' modulated rows, newest first. -/
def hPieces (X : Vec F S1536x1024 .f32) (M : Vec F S6x6x1024 .f32) : List (View.Piece (Elt F) S1536x1024 .bf16) :=
  [⟨rRows 1024 1280 inb_S1536x1024_S256x1024_1280_0, hRows X M 5⟩, ⟨rRows 1024 1024 inb_S1536x1024_S256x1024_1024_0, hRows X M 4⟩,
    ⟨rRows 1024 768 inb_S1536x1024_S256x1024_768_0, hRows X M 3⟩, ⟨rRows 1024 512 inb_S1536x1024_S256x1024_512_0, hRows X M 2⟩,
    ⟨rRows 1024 256 inb_S1536x1024_S256x1024_256_0, hRows X M 1⟩, ⟨rRows 1024 0 inb_S1536x1024_S256x1024_0_0, hRows X M 0⟩]

/-- The pieces the first run stores into the decay window. -/
def gPieces (X : Vec F S1536x1024 .f32) (M : Vec F S6x6x1024 .f32) (W : Vec F S1024x128 .bf16) : List (View.Piece (Elt F) S1536x128 .f32) :=
  [⟨rRows 128 1280 inb_S1536x128_S256x128_1280_0, gRows X M W 5⟩, ⟨rRows 128 1024 inb_S1536x128_S256x128_1024_0, gRows X M W 4⟩,
    ⟨rRows 128 768 inb_S1536x128_S256x128_768_0, gRows X M W 3⟩, ⟨rRows 128 512 inb_S1536x128_S256x128_512_0, gRows X M W 2⟩,
    ⟨rRows 128 256 inb_S1536x128_S256x128_256_0, gRows X M W 1⟩, ⟨rRows 128 0 inb_S1536x128_S256x128_0_0, gRows X M W 0⟩]

theorem read_hPieces (f : BufTy.Contents (Elt F) arg8.view.ty) (X : Vec F S1536x1024 .f32) (M : Vec F S6x6x1024 .f32) :
    arg8.view.read (Elt F) (arg8.view.writes (Elt F) f (hPieces X M)) = hBlock X M :=
  six (n := 1024) arg8.view f _ _ _ _ _ _ (hRows X M)

theorem read_gPieces (f : BufTy.Contents (Elt F) arg7.view.ty) (X : Vec F S1536x1024 .f32) (M : Vec F S6x6x1024 .f32) (W : Vec F S1024x128 .bf16) :
    arg7.view.read (Elt F) (arg7.view.writes (Elt F) f (gPieces X M W)) = gBlock X M W :=
  six (n := 128) arg7.view f _ _ _ _ _ _ (gRows X M W)

theorem first_h (hi : k0_cond1 i = 1#1) :
    (firstRun c i arg2 harg2 arg3 harg3 arg4 harg4 arg5 harg5 arg6 harg6 arg7 harg7 arg8 harg8 f2 f3 f4 f5 f8 hi).1.2.2
      = hPieces (arg2.view.read (Elt F) f2) (arg3.view.read (Elt F) f3) := by
  unfold firstRun hPieces hRows
  rw [← load_rows arg2 f2 0 _ inb_S1536x1024_S256x1024_0_0 rfl, ← load_rows arg2 f2 1 _ inb_S1536x1024_S256x1024_256_0 rfl,
    ← load_rows arg2 f2 2 _ inb_S1536x1024_S256x1024_512_0 rfl, ← load_rows arg2 f2 3 _ inb_S1536x1024_S256x1024_768_0 rfl,
    ← load_rows arg2 f2 4 _ inb_S1536x1024_S256x1024_1024_0 rfl, ← load_rows arg2 f2 5 _ inb_S1536x1024_S256x1024_1280_0 rfl,
    ← load_mod arg3 f3 0 0 _ inb_S6x6x1024_S1x1x1024_0_0_0 rfl, ← load_mod arg3 f3 0 1 _ inb_S6x6x1024_S1x1x1024_0_1_0 rfl,
    ← load_mod arg3 f3 1 0 _ inb_S6x6x1024_S1x1x1024_1_0_0 rfl, ← load_mod arg3 f3 1 1 _ inb_S6x6x1024_S1x1x1024_1_1_0 rfl,
    ← load_mod arg3 f3 2 0 _ inb_S6x6x1024_S1x1x1024_2_0_0 rfl, ← load_mod arg3 f3 2 1 _ inb_S6x6x1024_S1x1x1024_2_1_0 rfl,
    ← load_mod arg3 f3 3 0 _ inb_S6x6x1024_S1x1x1024_3_0_0 rfl, ← load_mod arg3 f3 3 1 _ inb_S6x6x1024_S1x1x1024_3_1_0 rfl,
    ← load_mod arg3 f3 4 0 _ inb_S6x6x1024_S1x1x1024_4_0_0 rfl, ← load_mod arg3 f3 4 1 _ inb_S6x6x1024_S1x1x1024_4_1_0 rfl,
    ← load_mod arg3 f3 5 0 _ inb_S6x6x1024_S1x1x1024_5_0_0 rfl, ← load_mod arg3 f3 5 1 _ inb_S6x6x1024_S1x1x1024_5_1_0 rfl]
  rfl

theorem first_g (hi : k0_cond1 i = 1#1) :
    (firstRun c i arg2 harg2 arg3 harg3 arg4 harg4 arg5 harg5 arg6 harg6 arg7 harg7 arg8 harg8 f2 f3 f4 f5 f8 hi).1.2.1
      = gPieces (arg2.view.read (Elt F) f2) (arg3.view.read (Elt F) f3) (arg5.view.read (Elt F) f5) := by
  unfold firstRun gPieces gRows
  rw [← load_rows arg2 f2 0 _ inb_S1536x1024_S256x1024_0_0 rfl, ← load_rows arg2 f2 1 _ inb_S1536x1024_S256x1024_256_0 rfl,
    ← load_rows arg2 f2 2 _ inb_S1536x1024_S256x1024_512_0 rfl, ← load_rows arg2 f2 3 _ inb_S1536x1024_S256x1024_768_0 rfl,
    ← load_rows arg2 f2 4 _ inb_S1536x1024_S256x1024_1024_0 rfl, ← load_rows arg2 f2 5 _ inb_S1536x1024_S256x1024_1280_0 rfl,
    ← load_mod arg3 f3 0 0 _ inb_S6x6x1024_S1x1x1024_0_0_0 rfl, ← load_mod arg3 f3 0 1 _ inb_S6x6x1024_S1x1x1024_0_1_0 rfl,
    ← load_mod arg3 f3 1 0 _ inb_S6x6x1024_S1x1x1024_1_0_0 rfl, ← load_mod arg3 f3 1 1 _ inb_S6x6x1024_S1x1x1024_1_1_0 rfl,
    ← load_mod arg3 f3 2 0 _ inb_S6x6x1024_S1x1x1024_2_0_0 rfl, ← load_mod arg3 f3 2 1 _ inb_S6x6x1024_S1x1x1024_2_1_0 rfl,
    ← load_mod arg3 f3 3 0 _ inb_S6x6x1024_S1x1x1024_3_0_0 rfl, ← load_mod arg3 f3 3 1 _ inb_S6x6x1024_S1x1x1024_3_1_0 rfl,
    ← load_mod arg3 f3 4 0 _ inb_S6x6x1024_S1x1x1024_4_0_0 rfl, ← load_mod arg3 f3 4 1 _ inb_S6x6x1024_S1x1x1024_4_1_0 rfl,
    ← load_mod arg3 f3 5 0 _ inb_S6x6x1024_S1x1x1024_5_0_0 rfl, ← load_mod arg3 f3 5 1 _ inb_S6x6x1024_S1x1x1024_5_1_0 rfl,
    ← load_gates arg5 f5 inb_S1024x128_S1024x128_0_0]
  rfl

theorem first_out (hi : k0_cond1 i = 1#1) :
    (firstRun c i arg2 harg2 arg3 harg3 arg4 harg4 arg5 harg5 arg6 harg6 arg7 harg7 arg8 harg8 f2 f3 f4 f5 f8 hi).1.1
      = k0_pay4 (hBlock (arg2.view.read (Elt F) f2) (arg3.view.read (Elt F) f3)) (arg4.view.read (Elt F) f4) := by
  rw [← load_tile arg4 f4 inb_S1024x768_S1024x768_0_0, ← read_hPieces arg8 arg8.view.junk,
    ← first_h c i arg2 harg2 arg3 harg3 arg4 harg4 arg5 harg5 arg6 harg6 arg7 harg7 arg8 harg8 f2 f3 f4 f5 f8 hi,
    ← load_scratch arg8 _ inb_S1536x1024_S1536x1024_0_0]
  unfold firstRun
  rfl

theorem later_out (hi : ¬ k0_cond1 i = 1#1) :
    (laterRun c i arg2 harg2 arg3 harg3 arg4 harg4 arg5 harg5 arg6 harg6 arg7 harg7 arg8 harg8 f2 f3 f4 f5 f8 hi).1
      = k0_pay4 (arg8.view.read (Elt F) f8) (arg4.view.read (Elt F) f4) := by
  rw [← load_tile arg4 f4 inb_S1024x768_S1024x768_0_0, ← load_scratch arg8 f8 inb_S1536x1024_S1536x1024_0_0]
  unfold laterRun
  rfl

end

end Cert.Proof.ProjRun

end
-- ==== Proof.ProjIdealFrame.lean ====
/-
  The run of the input projection's kernel with its outputs named: the body obligation with the scratch's contents tracked from
  one column tile to the next, the launch, what the two arrays that the call returns hold, every argument array unchanged and
  every counter at zero.
-/
module

public import proofs.«01_k».proof.Proof.Gen.Kernel2Ideal.Frame
public import proofs.«01_k».proof.Proof.Gen.Kernel2Ideal.Points
public import proofs.«01_k».proof.Proof.ProjRun
public import Idealize.ShloMosaic.Lib.Claim

@[expose] public section

set_option maxRecDepth 8192
set_option maxHeartbeats 4000000

noncomputable section

namespace Cert.Proof.ProjIdealFrame

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ProjIdealBody (held rOut firstRun laterRun)
open Cert.Proof.ProjRun (hBlock gBlock hPieces gPieces)
open Idealize.ShloMosaic.Pipeline (Dat Cfg Window BodyObligation cellOf)

variable {F : FTy → Type} [FloatOps F]

local notation "𝕄" => MT nD τ sig Unit (Elt F) ℕ (UR sig nD τ) ℕ

/-! ## The points of a row block -/

/-- The first point of the row block that point `t` works on. -/
def first (t : Fin cfg0.N) : Fin cfg0.N := ⟨14 * (t.val / 14), by have := t.isLt; omega⟩

theorem first_of_start (t : Fin cfg0.N) (h : t.val % 14 = 0) : first t = t := Fin.ext (by show 14 * (t.val / 14) = t.val; omega)

theorem first_step (t u : Fin cfg0.N) (hu : u.val = t.val + 1) (h : u.val % 14 ≠ 0) : first u = first t :=
  Fin.ext (by show 14 * (u.val / 14) = 14 * (t.val / 14); omega)

theorem starts (t : Fin cfg0.N) : k0_cond1 (grid0.coords t) = 1#1 ↔ t.val % 14 = 0 := by
  revert t; decide +kernel

/-! ## The proof data -/

variable (m : (ℓ : Loc nD τ sig) → Buf (Elt F) ℓ) (ρ : Dev nD → PrngReg)

/-- The modulated rows of the row block that point `t` works on. -/
def hB (c : Dev nD) (t : Fin cfg0.N) : Vec F S1536x1024 .bf16 := hBlock (iblk m c 0 (first t)) (iblk m c 1 (first t))

/-- Its decay columns. -/
def gB (c : Dev nD) (t : Fin cfg0.N) : Vec F S1536x128 .f32 :=
  gBlock (iblk m c 0 (first t)) (iblk m c 1 (first t)) (iblk m c 3 (first t))

/-- The projection's block at point `t`. -/
def pB (c : Dev nD) (t : Fin cfg0.N) : Vec F S1536x768 .bf16 := k0_pay4 (hB m c t) (iblk m c 2 t)

/-- The scratch and the generator: before a column tile that is not a row block's first the scratch holds that block's
    modulated rows. -/
def tracked (c : Dev nD) (p : Fin (cfg0.N + 1)) : sProp 𝕄 :=
  iprop((∃ f : BufTy.Contents (Elt F) (Memref.whole cc0_scratch0).view.ty, held c (Memref.whole cc0_scratch0) f
      ∗ ⌜∀ t : Fin cfg0.N, t.val = p.val → ¬ t.val % 14 = 0 → (Memref.whole cc0_scratch0).view.read (Elt F) f = hB m c t⌝)
    ∗ ∃ r, prngReg c r)

/-- The proof data on core `c`: every input's block left in place, the outputs' blocks stored, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pB m c t
    | ⟨5, _⟩ => gB m c t
  Φ p := tracked m c p
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = pB m c t := by dsimp only [dats]
theorem after0_5 (c : Dev nD) (t : Fin cfg0.N) : (dats m 0 c).after 5 t = gB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- After a row block's first column tile the decay window holds what that tile stored. -/
theorem before0_5 (c : Dev nD) (d) : ∀ (k : ℕ) (t : Fin cfg0.N), t.val % 14 = k + 1 → (dats m 0 c).before 5 t d = gB m c t := by
  intro k
  induction k with
  | zero =>
    intro t hk
    have h0 : t.val ≠ 0 := by omega
    have hlt : t.val - 1 < cfg0.N := Nat.lt_of_le_of_lt (Nat.sub_le _ _) t.isLt
    rw [(dats m 0 c).before_of_pos 5 t h0 rfl d, if_neg (by rw [flush0_5]; show ¬ (t.val - 1) % 14 = 13; omega)]
    have hs : k0_cond1 (grid0.coords ⟨t.val - 1, hlt⟩) = 1#1 := (starts _).mpr (by show (t.val - 1) % 14 = 0; omega)
    have hidle : cfg0.idle 5 (cfg0.grid.coords ⟨t.val - 1, hlt⟩) = false := by
      show (!(k0_cond1 (grid0.coords ⟨t.val - 1, hlt⟩) == 1#1)) = false
      rw [hs]; rfl
    unfold Dat.left
    rw [hidle]
    show (dats m 0 c).after 5 ⟨t.val - 1, hlt⟩ = _
    rw [after0_5, gB, gB, first_step ⟨t.val - 1, hlt⟩ t (by show t.val = t.val - 1 + 1; omega) (by omega)]
  | succ k ih =>
    intro t hk
    have h0 : t.val ≠ 0 := by omega
    have hlt : t.val - 1 < cfg0.N := Nat.lt_of_le_of_lt (Nat.sub_le _ _) t.isLt
    rw [(dats m 0 c).before_of_pos 5 t h0 rfl d, if_neg (by rw [flush0_5]; show ¬ (t.val - 1) % 14 = 13; omega)]
    have hs : ¬ k0_cond1 (grid0.coords ⟨t.val - 1, hlt⟩) = 1#1 := fun h => by
      have := (starts _).mp h
      have : (t.val - 1) % 14 = 0 := this
      omega
    have hidle : cfg0.idle 5 (cfg0.grid.coords ⟨t.val - 1, hlt⟩) = true := by
      show (!(k0_cond1 (grid0.coords ⟨t.val - 1, hlt⟩) == 1#1)) = true
      rw [beq_eq_false_iff_ne.mpr hs]; rfl
    unfold Dat.left
    rw [hidle]
    show (dats m 0 c).before 5 ⟨t.val - 1, hlt⟩ d = _
    rw [ih ⟨t.val - 1, hlt⟩ (by show (t.val - 1) % 14 = k + 1; omega), gB, gB,
      first_step ⟨t.val - 1, hlt⟩ t (by show t.val = t.val - 1 + 1; omega) (by omega)]

/-- What the body must leave in the decay window: at a tile that leaves the window alone and does not write it back, what it
    found; else its block. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem post5_intro (c : Dev nD) (t : Fin cfg0.N) :
    (owns (c : Thread nD τ) (st0_5 t) fullShare (gB m c t) : sProp 𝕄) ⊢ post5 m c t := by
  unfold post5
  rw [after0_5]
  cases hi : cfg0.idle 5 (cfg0.grid.coords t)
  · exact .rfl
  · cases hf : (cfg0.win 5).flush t
    · have hs : ¬ t.val % 14 = 0 := fun h => by
        have e := (starts t).mpr h
        have : (!(k0_cond1 (grid0.coords t) == 1#1)) = true := hi
        rw [e] at this; exact absurd this (by decide)
      iintro H
      iexists (gB m c t)
      rw [before0_5 m c _ (t.val % 14 - 1) t (by omega)]
      iexact H
    · exact .rfl

/-- What one store through the whole buffer leaves reads back as the stored block. -/
theorem stored (v : View sig .tc .vmem S1536x768 .bf16) (f : BufTy.Contents (Elt F) v.ty) (out : Vec F S1536x768 .bf16) :
    v.read (Elt F) (v.writes (Elt F) f [⟨rOut, out⟩]) = out := by
  funext y
  refine View.read_writes_cons_unit_of_mem (off' := fun _ => 0) _ _ _ _ _ y y (by funext a; fin_cases a <;> rfl) fun a => ?_
  simp

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ post5 m c t)

/-- The body at any point: the scratch taken out of the invariant, the run, the scratch put back at what the run left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = tracked m c t.succ from rfl,
    show (dats m 0 c).owesAt () t.succ = (dats m 0 c).owesAt () t.castSucc from rfl,
    show (dats m 0 c).Φ t.castSucc = tracked m c t.castSucc from rfl,
    after0_0, after0_1, after0_2, after0_3, after0_4]
  unfold tracked owns
  iintro ⟨⟨⟨%f9, H9, %h9⟩, Hg⟩, Ho, ⟨%d0, %f0, %hf0, H0⟩, ⟨%d1, %f1, %hf1, H1⟩, ⟨%d2, %f2, %hf2, H2⟩, ⟨%d3, %f3, %hf3, H3⟩,
    ⟨%d4, %f4, -, H4⟩, ⟨%d5, %f5, %hf5, H5⟩⟩
  by_cases hi : k0_cond1 (grid0.coords t) = 1#1
  · have ht : first t = t := first_of_start t ((starts t).mp hi)
    have eh : hB m c t = hBlock ((st0_0 t).view.read (Elt F) f0) ((st0_1 t).view.read (Elt F) f1) := by
      rw [hB, ht, hf0, hf1]
    have eg : gB m c t = gBlock ((st0_0 t).view.read (Elt F) f0) ((st0_1 t).view.read (Elt F) f1) ((st0_3 t).view.read (Elt F) f3) := by
      rw [gB, ht, hf0, hf1, hf3]
    iapply ((firstRun c (grid0.coords t) _ _ _ _ _ _ _ _ _ _ _ _ (Memref.whole cc0_scratch0) _ f0 f1 f2 f3 f9 hi).2 f4 f5 Set.univ _)
    isplitl [H0]; · iexact H0
    isplitl [H1]; · iexact H1
    isplitl [H2]; · iexact H2
    isplitl [H3]; · iexact H3
    isplitl [H4]; · iexact H4
    isplitl [H5]; · iexact H5
    isplitl [H9]; · iexact H9
    iintro ⟨H0, H1, H2, H3, H4, H5, H9⟩
    isplitl [H9 Hg]
    · isplitl [H9]
      · iexists _
        isplitl [H9]; · iexact H9
        ipureintro
        intro u hu hn
        rw [hB, first_step t u hu hn, ← hB, eh, ProjRun.first_h]
        exact ProjRun.read_hPieces _ _ _ _
      iexact Hg
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists _; isplitr
      swap; · iexact H4
      ipureintro
      refine (stored _ _ _).trans ((ProjRun.first_out c (grid0.coords t) _ _ _ _ _ _ _ _ _ _ _ _ (Memref.whole cc0_scratch0) _ f0 f1 f2 f3 f9 hi).trans ?_)
      rw [pB, eh, ← hf2]
    iapply post5_intro m c t
    unfold owns
    iexists _; isplitr
    swap; · iexact H5
    ipureintro
    rw [eg, ProjRun.first_g]
    exact ProjRun.read_gPieces _ _ _ _ _
  · have hn : ¬ t.val % 14 = 0 := fun h => hi ((starts t).mpr h)
    have e9 := h9 t rfl hn
    iapply ((laterRun c (grid0.coords t) _ _ _ _ _ _ _ _ _ _ _ _ (Memref.whole cc0_scratch0) _ f0 f1 f2 f3 f9 hi).2 f4 f5 Set.univ _)
    isplitl [H0]; · iexact H0
    isplitl [H1]; · iexact H1
    isplitl [H2]; · iexact H2
    isplitl [H3]; · iexact H3
    isplitl [H4]; · iexact H4
    isplitl [H5]; · iexact H5
    isplitl [H9]; · iexact H9
    iintro ⟨H0, H1, H2, H3, H4, H5, H9⟩
    isplitl [H9 Hg]
    · isplitl [H9]
      · iexists _
        isplitl [H9]; · iexact H9
        ipureintro
        intro u hu hn'
        rw [hB, first_step t u hu hn', ← hB]
        exact e9
      iexact Hg
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists _; isplitr
      swap; · iexact H4
      ipureintro
      refine (stored _ _ _).trans ((ProjRun.later_out c (grid0.coords t) _ _ _ _ _ _ _ _ _ _ _ _ (Memref.whole cc0_scratch0) _ f0 f1 f2 f3 f9 hi).trans ?_)
      rw [pB, ← e9, ← hf2]
    iapply post5_intro m c t
    unfold owns
    iexists _; isplitr
    swap; · iexact H5
    ipureintro
    exact hf5.trans (before0_5 m c _ (t.val % 14 - 1) t (by omega))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enters (c : Dev nD) : (Pipeline.ΦA spec0 c : sProp 𝕄) ⊢ (dats m 0 c).Φ 0 := by
  show _ ⊢ tracked m c 0
  unfold Pipeline.ΦA tracked
  rw [scopedRest0_eq]
  iintro ⟨⟨%f, H⟩, Hg⟩
  isplitl [H]
  · iexists f
    isplitl [H]
    · simp only [held, Memref.view_whole, View.set_whole]; iexact H
    ipureintro
    intro t ht hn
    have : t.val = 0 := ht
    omega
  iexact Hg

theorem leaves (c : Dev nD) : (dats m 0 c).Φ (Fin.last cfg0.N) ⊢ (Pipeline.ΦA spec0 c : sProp 𝕄) := by
  show tracked m c _ ⊢ _
  unfold Pipeline.ΦA tracked
  rw [scopedRest0_eq]
  iintro ⟨⟨%f, H, -⟩, Hg⟩
  isplitl [H]
  · iexists f
    simp only [held, Memref.view_whole, View.set_whole]; iexact H
  iexact Hg

-- the library theorem's implicit arguments are found by unfolding plain definitions in a metavariable's type
set_option backward.isDefEq.respectTransparency.types false in
/-- Every execution ends, every array at the contents the proof data names, every counter at zero. -/
theorem run_main : θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The frame with the results: the arrays the call returns, the argument arrays as they were, every counter zero. -/
theorem run_all : θ_run defs (onTc (τ := τ) (main (F := F))) ⟨m, fun _ => 0, ρ⟩ (fun r => (∀ c : Dev nD,
      (r.2.mem ((c.tc : Thread nD τ).loc main_v30_0) = (dats m 0 c).arrAt 4 cfg0.N
      ∧ r.2.mem ((c.tc : Thread nD τ).loc main_v30_1) = (dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rest := fun b hb => (h.1 c).2 b hb
  exact ⟨⟨(h.1 c).1 4, (h.1 c).1 5⟩, (rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c)⟩

/-- The frame: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

end Cert.Proof.ProjIdealFrame

end
-- ==== Proof.ProjSpec.lean ====
/-
  The input projection element by element: a token's row normalized, scaled and shifted, and the products of that row with the
  columns of the weights.
-/
module

public import Idealize.ShloMosaic.Lib.Pointwise

@[expose] public section

noncomputable section

namespace Cert.Proof.ProjSpec

open Idealize.ShloMosaic

/-- A row's mean. -/
def mean (x : Fin 1024 → EReal) : EReal := Ideal.div (∑ k, x k) (Ideal.ofBits FTy.f32 0x44800000#32)

/-- The row less its mean, over its standard deviation. -/
def normed (x : Fin 1024 → EReal) (k : Fin 1024) : EReal :=
  (x k - mean x) * Ideal.rsqrt (mean (fun j => (x j - mean x) * (x j - mean x)) + Ideal.ofBits FTy.f32 0x3727C5AC#32)

/-- The normalized row scaled and shifted. -/
def lnRow (x sc sh : Fin 1024 → EReal) (k : Fin 1024) : EReal := normed x k * sc k + sh k

section

variable (x : Fin 2 → Fin 8192 → Fin 1024 → EReal) (ctx : Fin 2 → Fin 256 → Fin 1024 → EReal)
  (mx : Fin 2 → Fin 6144 → EReal) (mc : Fin 6144 → EReal) (w : Fin 1024 → Fin 10784 → EReal)

/-- Row `R` of the two token streams laid one after the other. -/
def tok (R : Fin 16896) (k : Fin 1024) : EReal :=
  if h : R.val < 16384 then x ⟨R.val / 8192, by omega⟩ ⟨R.val % 8192, by omega⟩ k
  else ctx ⟨(R.val - 16384) / 256, by omega⟩ ⟨(R.val - 16384) % 256, by omega⟩ k

/-- That row's shift. -/
def shift (R : Fin 16896) (k : Fin 1024) : EReal :=
  if h : R.val < 16384 then mx ⟨R.val / 8192, by omega⟩ ⟨k.val, by omega⟩ else mc ⟨k.val, by omega⟩

/-- That row's scale. -/
def scale (R : Fin 16896) (k : Fin 1024) : EReal :=
  if h : R.val < 16384 then mx ⟨R.val / 8192, by omega⟩ ⟨1024 + k.val, by omega⟩ + 1 else mc ⟨1024 + k.val, by omega⟩ + 1

/-- The modulated row. -/
def row (R : Fin 16896) (k : Fin 1024) : EReal := lnRow (tok x ctx R) (scale mx mc R) (shift mx mc R) k

/-- The column of the weights that column `n` of the projection's first result is the product with. -/
def col (n : Fin 10752) : Fin 10784 :=
  ⟨if n.val < 4096 then 6688 + n.val else if n.val < 7680 then n.val - 4096 else n.val - 4064, by split_ifs <;> omega⟩

/-- The modulated row against a column of the weights. -/
def dot (R : Fin 16896) (n : Fin 10784) : EReal := ∑ k, row x ctx mx mc R k * w k n

/-- The first result. -/
def proj (R : Fin 16896) (n : Fin 10752) : EReal := dot x ctx mx mc w R (col n)

/-- The second result: the decay columns, and columns of zeros. -/
def decay (R : Fin 16896) (n : Fin 128) : EReal := if h : n.val < 32 then dot x ctx mx mc w R ⟨3584 + n.val, by omega⟩ else 0

end

end Cert.Proof.ProjSpec

end
-- ==== Proof.ProjHost.lean ====
/-
  The arrays that the input projection's kernel stages, as the host operations before it leave them: the token streams laid one
  after the other, the modulation of each group of rows, and the weights' columns in the order of the results.
-/
module

public import proofs.«01_k».proof.Proof.ProjIdealFrame
public import proofs.«01_k».proof.Proof.ProjSpec
public import Idealize.ShloMosaic.Lib.Pipeline.ValueKit
public import Idealize.ShloMosaic.Lib.StableHlo.ReadAt

@[expose] public section

set_option maxRecDepth 100000

noncomputable section

namespace Cert.Proof.ProjHost

open Cert.Kernel2Ideal Cert.Kernel2Ideal.Gen Cert.Proof.ProjRun Cert.Proof.ProjIdealFrame
open Idealize.ShloMosaic Idealize.ShloMosaic.TcCoe
open Cert.Proof.ProjSpec (lnRow tok shift scale row col proj decay)

/-! ## The arrays the windows stage -/

variable (m : (ℓ : Loc nD τ sig) → Buf (Elt Ideal) ℓ) (c : Dev nD)

/-- The argument arrays' elements. -/
def x (b : Fin 2) (i : Fin 8192) (k : Fin 1024) : EReal := m ((c : Thread nD τ).loc main_arg0) (ix3 (n0 := 2) (n1 := 8192) (n2 := 1024) b i k)
def ctx (b : Fin 2) (i : Fin 256) (k : Fin 1024) : EReal := m ((c : Thread nD τ).loc main_arg1) (ix3 (n0 := 2) (n1 := 256) (n2 := 1024) b i k)
def mx (b : Fin 2) (k : Fin 6144) : EReal := m ((c : Thread nD τ).loc main_arg2) (ix2 (n0 := 2) (n1 := 6144) b k)
def mc (k : Fin 6144) : EReal := m ((c : Thread nD τ).loc main_arg3) (ix1 (n0 := 6144) k)
def w (k : Fin 1024) (n : Fin 10784) : EReal := m ((c : Thread nD τ).loc main_arg4) (ix2 (n0 := 1024) (n1 := 10784) k n)

theorem V_tok (R : Fin 16896) (k : Fin 1024) :
    V m c main_v2 (ix2 (n0 := 16896) (n1 := 1024) R k) = tok (x m c) (ctx m c) R k := by
  unfold V; after_reads_at
  rfl

theorem table_zero (i : Fin 6) (h : i.val = 0) : lit0 i = 0x00000000#32 := by
  rw [show i = (⟨0, by decide⟩ : Fin 6) from Fin.ext h]; rfl

theorem table_one (i : Fin 6) (h : i.val = 1) : lit0 i = 0x3F800000#32 := by
  rw [show i = (⟨1, by decide⟩ : Fin 6) from Fin.ext h]; rfl

/-- The single-precision pattern of one reads as one. -/
theorem bits_one : Ideal.ofBits FTy.f32 0x3F800000#32 = 1 := by
  simp [Ideal.ofBits, Ideal.ieee, -EReal.coe_mul]
  try norm_num

/-- The pattern of zero reads as zero. -/
theorem bits_zero : Ideal.ofBits FTy.f32 0x00000000#32 = 0 := by
  simp [Ideal.ofBits, Ideal.ieee, -EReal.coe_mul]

/-- The modulation rows of the 256 rows that `R` lies in. -/
theorem V_shift (g : Fin 66) (k : Fin 1024) (R : Fin 16896) (hg : g.val = R.val / 256) :
    V m c main_v16 (ix3 (n0 := 66) (n1 := 6) (n2 := 1024) g 0 k) = shift (mx m c) (mc m c) R k := by
  unfold V; after_reads_at
  by_cases h : g.val < 64
  · refine (dif_pos h).trans (Eq.trans ?_ (dif_pos (show R.val < 16384 by omega)).symm)
    refine Eq.trans (congrArg₂ (· + ·) ?_ ((congrArg (Ideal.ofBits FTy.f32) (table_zero _ (rowMajor_val1 _))).trans bits_zero)) (add_zero _)
    refine congrArg (fun i => mx m c i ⟨k.val, by omega⟩) (Fin.ext ?_)
    show g.val / 32 = R.val / 8192
    omega
  · refine (dif_neg h).trans (Eq.trans ?_ (dif_neg (show ¬ R.val < 16384 by omega)).symm)
    exact Eq.trans (congrArg₂ (· + ·) rfl ((congrArg (Ideal.ofBits FTy.f32) (table_zero _ (rowMajor_val1 _))).trans bits_zero)) (add_zero _)

/-- The modulation scales of the 256 rows that `R` lies in. -/
theorem V_scale (g : Fin 66) (k : Fin 1024) (R : Fin 16896) (hg : g.val = R.val / 256) :
    V m c main_v16 (ix3 (n0 := 66) (n1 := 6) (n2 := 1024) g 1 k) = scale (mx m c) (mc m c) R k := by
  unfold V; after_reads_at
  by_cases h : g.val < 64
  · refine (dif_pos h).trans (Eq.trans ?_ (dif_pos (show R.val < 16384 by omega)).symm)
    refine congrArg₂ (· + ·) ?_ ((congrArg (Ideal.ofBits FTy.f32) (table_one _ (rowMajor_val1 _))).trans bits_one)
    refine congrArg (fun i => mx m c i ⟨1024 + k.val, by omega⟩) (Fin.ext ?_)
    show g.val / 32 = R.val / 8192
    omega
  · refine (dif_neg h).trans (Eq.trans ?_ (dif_neg (show ¬ R.val < 16384 by omega)).symm)
    exact congrArg₂ (· + ·) rfl ((congrArg (Ideal.ofBits FTy.f32) (table_one _ (rowMajor_val1 _))).trans bits_one)

theorem V_main (k : Fin 1024) (n : Fin 10752) :
    V m c main_v28 (ix2 (n0 := 1024) (n1 := 10752) k n) = w m c k (col n) := by
  unfold V; after_reads_at
  after_reads_simp
  pointwise
  unfold w
  split_ifs
  all_goals
    refine congrArg (fun y => m ((c : Thread nD τ).loc main_arg4) (ix2 (n0 := 1024) (n1 := 10784) k y)) (Fin.ext ?_)
    simp only [col]
    split_ifs <;> omega

theorem V_gates (k : Fin 1024) (n : Fin 128) :
    V m c main_v29 (ix2 (n0 := 1024) (n1 := 128) k n)
      = if h : n.val < 32 then w m c k ⟨3584 + n.val, by omega⟩ else 0 := by
  unfold V; after_reads_at
  after_reads_simp
  pointwise
  unfold w
  split_ifs
  · rfl
  · refine congrArg (fun y => m ((c : Thread nD τ).loc main_arg4) (ix2 (n0 := 1024) (n1 := 10784) k y)) (Fin.ext ?_)
    show 3600 + (n.val - 16) = 3584 + n.val
    omega
  · rename_i h; exact absurd rfl h
  · simp [FloatOps.sitofp]

end Cert.Proof.ProjHost

end
-- ==== Proof.ProjValue.lean ====
/-
  The arrays the input projection's kernel returns: each block read off the argument arrays, and the arrays put together from the
  blocks.
-/
module

public import proofs.«01_k».proof.Proof.ProjHost
public import Idealize.ShloMosaic.Lib.Pipeline.ValueKit
public import Idealize.ShloMosaic.Lib.StableHlo.ReadAt

@[expose] public section

set_option maxRecDepth 8192

noncomputable section

namespace Cert.Proof.ProjValue

open Cert.Kernel2Ideal Cert.Kernel2Ideal.Gen Cert.Proof.ProjRun Cert.Proof.ProjIdealFrame Cert.Proof.ProjHost
open Idealize.ShloMosaic Idealize.ShloMosaic.TcCoe
open Cert.Proof.ProjSpec (lnRow tok shift scale row col proj decay)

/-! ## The block -/

theorem hRows_apply (X : Vec Ideal S1536x1024 .f32) (M : Vec Ideal S6x6x1024 .f32) (s : Fin 6) (i : Fin 256) (k : Fin 1024) :
    hRows X M s (ix2 (n0 := 256) (n1 := 1024) i k)
      = lnRow (fun k => X (ix2 (n0 := 1536) (n1 := 1024) ⟨256 * s.val + i.val, by omega⟩ k))
          (fun k => M (ix3 (n0 := 6) (n1 := 6) (n2 := 1024) s 1 k)) (fun k => M (ix3 (n0 := 6) (n1 := 6) (n2 := 1024) s 0 k)) k := by
  unfold hRows
  pointwise [k0_pay6, k0_pay5]
  rfl

/-- The modulated row at row `r` of a block. -/
theorem hBlock_apply (X : Vec Ideal S1536x1024 .f32) (M : Vec Ideal S6x6x1024 .f32) (r : Fin 1536) (k : Fin 1024) :
    hBlock X M (ix2 (n0 := 1536) (n1 := 1024) r k)
      = lnRow (fun k => X (ix2 (n0 := 1536) (n1 := 1024) r k))
          (fun k => M (ix3 (n0 := 6) (n1 := 6) (n2 := 1024) (sliceOf r) 1 k))
          (fun k => M (ix3 (n0 := 6) (n1 := 6) (n2 := 1024) (sliceOf r) 0 k)) k := by
  have e : (⟨256 * (sliceOf r).val + (rowIn r).val, by have := (sliceOf r).isLt; have := (rowIn r).isLt; omega⟩ : Fin 1536) = r :=
    Fin.ext (by show 256 * (r.val / 256) + r.val % 256 = r.val; omega)
  refine (hRows_apply X M (sliceOf r) (rowIn r) k).trans ?_
  rw [e]

/-- The decay columns at row `r` of a block. -/
theorem gBlock_apply (X : Vec Ideal S1536x1024 .f32) (M : Vec Ideal S6x6x1024 .f32) (W : Vec Ideal S1024x128 .bf16) (r : Fin 1536) (n : Fin 128) :
    gBlock X M W (ix2 (n0 := 1536) (n1 := 128) r n)
      = ∑ k, hBlock X M (ix2 (n0 := 1536) (n1 := 1024) r k) * W (ix2 (n0 := 1024) (n1 := 128) k n) := by
  have h (s : Fin 6) (i : Fin 256) : gRows X M W s (ix2 (n0 := 256) (n1 := 128) i n)
      = ∑ k, hRows X M s (ix2 (n0 := 256) (n1 := 1024) i k) * W (ix2 (n0 := 1024) (n1 := 128) k n) := by
    unfold gRows hRows
    pointwise [k0_pay7, k0_pay6]
  exact h (sliceOf r) (rowIn r)

theorem tile_apply (H : Vec Ideal S1536x1024 .bf16) (W : Vec Ideal S1024x768 .bf16) (r : Fin 1536) (n : Fin 768) :
    k0_pay4 H W (ix2 (n0 := 1536) (n1 := 768) r n)
      = ∑ k, H (ix2 (n0 := 1536) (n1 := 1024) r k) * W (ix2 (n0 := 1024) (n1 := 768) k n) := by
  pointwise [k0_pay4]

variable (m : (ℓ : Loc nD τ sig) → Buf (Elt Ideal) ℓ) (c : Dev nD)

/-! ## The blocks -/

/-- Where each window's block lies at a point. -/
theorem idx (t : Fin cfg0.N) :
    win0_0.index t = ![t.val / 14, 0]
    ∧ win0_1.index t = ![t.val / 14, 0, 0]
    ∧ win0_2.index t = ![0, t.val % 14]
    ∧ win0_3.index t = ![0, 0]
    ∧ win0_4.index t = ![t.val / 14, t.val % 14]
    ∧ win0_5.index t = ![t.val / 14, 0] := by
  revert t; decide +kernel

/-- Row `r` of the row block that the point works on. -/
def rowAt (t : Fin cfg0.N) (r : Fin 1536) : Fin 16896 :=
  ⟨1536 * (t.val / 14) + r.val, by have : t.val < 154 := t.isLt; omega⟩

/-- Column `n` of the point's column tile. -/
def colAt (t : Fin cfg0.N) (n : Fin 768) : Fin 10752 := ⟨768 * (t.val % 14) + n.val, by omega⟩

theorem rowAt_first (t : Fin cfg0.N) (r : Fin 1536) : rowAt (first t) r = rowAt t r :=
  Fin.ext (by show 1536 * (14 * (t.val / 14) / 14) + r.val = 1536 * (t.val / 14) + r.val; omega)

theorem tok_block (t : Fin cfg0.N) (r : Fin 1536) (k : Fin 1024) :
    iblk m c 0 t (ix2 (n0 := 1536) (n1 := 1024) r k) = tok (x m c) (ctx m c) (rowAt t r) k := by
  rw [← V_tok m c]
  blk_ext [iblk, (idx t).1, rowAt]

/-- The modulation's group of a row. -/
def groupAt (t : Fin cfg0.N) (r : Fin 1536) : Fin 66 :=
  ⟨6 * (t.val / 14) + (sliceOf r).val, by have : t.val < 154 := t.isLt; have := (sliceOf r).isLt; omega⟩

theorem groupAt_eq (t : Fin cfg0.N) (r : Fin 1536) : (groupAt t r).val = (rowAt t r).val / 256 := by
  show 6 * (t.val / 14) + r.val / 256 = (1536 * (t.val / 14) + r.val) / 256
  omega

theorem shift_block (t : Fin cfg0.N) (r : Fin 1536) (k : Fin 1024) :
    iblk m c 1 t (ix3 (n0 := 6) (n1 := 6) (n2 := 1024) (sliceOf r) 0 k) = shift (mx m c) (mc m c) (rowAt t r) k := by
  rw [← V_shift m c (groupAt t r) k (rowAt t r) (groupAt_eq t r)]
  blk_ext [iblk, (idx t).2.1, groupAt]

theorem scale_block (t : Fin cfg0.N) (r : Fin 1536) (k : Fin 1024) :
    iblk m c 1 t (ix3 (n0 := 6) (n1 := 6) (n2 := 1024) (sliceOf r) 1 k) = scale (mx m c) (mc m c) (rowAt t r) k := by
  rw [← V_scale m c (groupAt t r) k (rowAt t r) (groupAt_eq t r)]
  blk_ext [iblk, (idx t).2.1, groupAt]

theorem main_block (t : Fin cfg0.N) (k : Fin 1024) (n : Fin 768) :
    iblk m c 2 t (ix2 (n0 := 1024) (n1 := 768) k n) = w m c k (col (colAt t n)) := by
  rw [← V_main m c]
  blk_ext [iblk, (idx t).2.2.1, colAt]

theorem gates_block (t : Fin cfg0.N) (k : Fin 1024) (n : Fin 128) :
    iblk m c 3 t (ix2 (n0 := 1024) (n1 := 128) k n) = if h : n.val < 32 then w m c k ⟨3584 + n.val, by omega⟩ else 0 := by
  rw [← V_gates m c]
  blk_ext [iblk, (idx t).2.2.2.1]

/-- The scratch's row. -/
theorem hB_apply (t : Fin cfg0.N) (r : Fin 1536) (k : Fin 1024) :
    hB m c t (ix2 (n0 := 1536) (n1 := 1024) r k) = row (x m c) (ctx m c) (mx m c) (mc m c) (rowAt t r) k := by
  rw [hB, hBlock_apply]
  simp only [tok_block, shift_block, scale_block, rowAt_first]
  rfl

theorem pB_apply (t : Fin cfg0.N) (r : Fin 1536) (n : Fin 768) :
    pB m c t (ix2 (n0 := 1536) (n1 := 768) r n)
      = proj (x m c) (ctx m c) (mx m c) (mc m c) (w m c) (rowAt t r) (colAt t n) := by
  rw [pB, tile_apply]
  simp only [hB_apply, main_block]
  rfl

theorem gB_apply (t : Fin cfg0.N) (r : Fin 1536) (n : Fin 128) :
    gB m c t (ix2 (n0 := 1536) (n1 := 128) r n)
      = decay (x m c) (ctx m c) (mx m c) (mc m c) (w m c) (rowAt t r) n := by
  rw [gB, gBlock_apply]
  have e := hB_apply m c t r
  unfold hB at e
  simp only [e, gates_block]
  unfold decay
  split_ifs
  · rfl
  · simp only [mul_zero, Finset.sum_const_zero]

/-! ## The arrays -/

/-- The first array the kernel returns. -/
theorem proj_array : (dats m 0 c).arrAt 4 cfg0.N
    = fun y => proj (x m c) (ctx m c) (mx m c) (mc m c) (w m c) (y 0) (y 1) := by
  refine (dats m 0 c).arrAt_eq_of_covers 4 _ (by decide +kernel) fun t hf y => ?_
  obtain ⟨r, n, rfl⟩ : ∃ (r : Fin 1536) (n : Fin 768), y = ix2 (n0 := 1536) (n1 := 768) r n :=
    ⟨y 0, y 1, by funext a; fin_cases a <;> rfl⟩
  have e : ((cfg0.win 4).blk t).view.emb (ix2 (n0 := 1536) (n1 := 768) r n)
      = ix2 (n0 := 16896) (n1 := 10752) (rowAt t r) (colAt t n) := by
    blk_ext [(idx t).2.2.2.2.1, rowAt, colAt]
  rw [e]
  refine Eq.trans ?_ (pB_apply m c t r n)
  blk_simp
  rw [after0_4]

/-- The second. -/
theorem decay_array : (dats m 0 c).arrAt 5 cfg0.N
    = fun y => decay (x m c) (ctx m c) (mx m c) (mc m c) (w m c) (y 0) (y 1) := by
  refine (dats m 0 c).arrAt_eq_of_covers 5 _ (by decide +kernel) fun t hf y => ?_
  obtain ⟨r, n, rfl⟩ : ∃ (r : Fin 1536) (n : Fin 128), y = ix2 (n0 := 1536) (n1 := 128) r n :=
    ⟨y 0, y 1, by funext a; fin_cases a <;> rfl⟩
  have e : ((cfg0.win 5).blk t).view.emb (ix2 (n0 := 1536) (n1 := 128) r n)
      = ix2 (n0 := 16896) (n1 := 128) (rowAt t r) n := by
    blk_ext [(idx t).2.2.2.2.2, rowAt]
  rw [e]
  refine Eq.trans ?_ (gB_apply m c t r n)
  blk_simp
  rw [after0_5]

end Cert.Proof.ProjValue

end
-- ==== Proof.ProjRef.lean ====
/-
  What the reference of the input projection computes, element by element: the layer norm and the modulation of the two token
  streams, their product with the weights, and the two arrays its columns are put into.
-/
module

public import proofs.«01_k».proof.Proof.Gen.Reference2Ideal.Run
public import proofs.«01_k».proof.Proof.ProjSpec

@[expose] public section

set_option maxRecDepth 100000

noncomputable section

namespace Cert.Proof.ProjRef

open Cert.Reference2Ideal Cert.Reference2Ideal.Gen
open Idealize.ShloMosaic Idealize.ShloMosaic.TcCoe
open Cert.Proof.ProjSpec (lnRow tok shift scale row col dot proj decay)

/-! ## The reference in its steps -/

/-- The means of the latent rows. -/
def meanX (A0 : FVec Ideal S2x8192x1024 .f32) : FVec Ideal S2x8192x1 .f32 :=
  Host.divf (broadcastInDim S2x8192x1 ![0, 1] bcast_S2x8192_S2x8192x1_0_1 (Host.reduceAdd A0 (constant S_ .f32 0x00000000#32)
    reducesTo_S2x8192x1024_S2x8192_d2 h_S_)) (broadcastInDim S2x8192x1 ![] bcast_S_S2x8192x1 (constant S_ .f32 0x44800000#32))

/-- The latent rows less their means. -/
def devX (A0 : FVec Ideal S2x8192x1024 .f32) : FVec Ideal S2x8192x1024 .f32 :=
  subf A0 (broadcastInDim S2x8192x1024 ![0, 1, 2] bcast_S2x8192x1_S2x8192x1024_0_1_2 (meanX A0))

/-- The latent rows, normalized and modulated. -/
def hx (A0 : FVec Ideal S2x8192x1024 .f32) (A2 : FVec Ideal S2x6144 .f32) : FVec Ideal S2x8192x1024 .f32 :=
  addf (mulf (mulf (devX A0) (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf (devX A0) (devX A0)) (constant S_ .f32
    0x00000000#32) reducesTo_S2x8192x1024_S2x8192_d2 h_S_)) (broadcastInDim S2x8192x1 ![] bcast_S_S2x8192x1 (constant S_ .f32
    0x44800000#32))) (broadcastInDim S2x8192x1 ![] bcast_S_S2x8192x1 (constant S_ .f32 0x3727C5AC#32)))))) (broadcastInDim
    S2x8192x1024 ![0, 1, 2] bcast_S2x1x1024_S2x8192x1024_0_1_2 (addf (broadcastInDim S2x1x1024 ![] bcast_S_S2x1x1024 (constant S_
    .f32 0x3F800000#32)) (extractStridedSlice S2x1x1024 ![0, 0, 1024] (broadcastInDim S2x1x6144 ![0, 2]
    bcast_S2x6144_S2x1x6144_0_2 A2) slices_S2x1x6144_S2x1x1024_0_0_1024)))) (broadcastInDim S2x8192x1024 ![0, 1, 2]
    bcast_S2x1x1024_S2x8192x1024_0_1_2 (extractStridedSlice S2x1x1024 ![0, 0, 0] (broadcastInDim S2x1x6144 ![0, 2]
    bcast_S2x6144_S2x1x6144_0_2 A2) slices_S2x1x6144_S2x1x1024_0_0_0))

/-- The means of the context rows. -/
def meanC (A1 : FVec Ideal S2x256x1024 .f32) : FVec Ideal S2x256x1 .f32 :=
  Host.divf (broadcastInDim S2x256x1 ![0, 1] bcast_S2x256_S2x256x1_0_1 (Host.reduceAdd A1 (constant S_ .f32 0x00000000#32)
    reducesTo_S2x256x1024_S2x256_d2 h_S_)) (broadcastInDim S2x256x1 ![] bcast_S_S2x256x1 (constant S_ .f32 0x44800000#32))

/-- The context rows less their means. -/
def devC (A1 : FVec Ideal S2x256x1024 .f32) : FVec Ideal S2x256x1024 .f32 :=
  subf A1 (broadcastInDim S2x256x1024 ![0, 1, 2] bcast_S2x256x1_S2x256x1024_0_1_2 (meanC A1))

/-- The context rows, normalized and modulated. -/
def hc (A1 : FVec Ideal S2x256x1024 .f32) (A3 : FVec Ideal S6144 .f32) : FVec Ideal S2x256x1024 .f32 :=
  addf (mulf (mulf (devC A1) (broadcastInDim S2x256x1024 ![0, 1, 2] bcast_S2x256x1_S2x256x1024_0_1_2 (Host.rsqrt (addf (Host.divf
    (broadcastInDim S2x256x1 ![0, 1] bcast_S2x256_S2x256x1_0_1 (Host.reduceAdd (mulf (devC A1) (devC A1)) (constant S_ .f32
    0x00000000#32) reducesTo_S2x256x1024_S2x256_d2 h_S_)) (broadcastInDim S2x256x1 ![] bcast_S_S2x256x1 (constant S_ .f32
    0x44800000#32))) (broadcastInDim S2x256x1 ![] bcast_S_S2x256x1 (constant S_ .f32 0x3727C5AC#32)))))) (broadcastInDim
    S2x256x1024 ![0, 1, 2] bcast_S1x1x1024_S2x256x1024_0_1_2 (addf (broadcastInDim S1x1x1024 ![] bcast_S_S1x1x1024 (constant S_
    .f32 0x3F800000#32)) (extractStridedSlice S1x1x1024 ![0, 0, 1024] (broadcastInDim S1x1x6144 ![2] bcast_S6144_S1x1x6144_2 A3)
    slices_S1x1x6144_S1x1x1024_0_0_1024)))) (broadcastInDim S2x256x1024 ![0, 1, 2] bcast_S1x1x1024_S2x256x1024_0_1_2
    (extractStridedSlice S1x1x1024 ![0, 0, 0] (broadcastInDim S1x1x6144 ![2] bcast_S6144_S1x1x6144_2 A3)
    slices_S1x1x6144_S1x1x1024_0_0_0))

/-- The latent rows against the weights. -/
def px (H : FVec Ideal S2x8192x1024 .f32) (A4 : FVec Ideal S1024x10784 .f32) : FVec Ideal S2x8192x10784 .f32 :=
  Host.dotGeneral dot_S2x8192x1024_S1024x10784_S2x8192x10784_2_0_01_1_n_n none H A4

/-- The context rows against them. -/
def pc (H : FVec Ideal S2x256x1024 .f32) (A4 : FVec Ideal S1024x10784 .f32) : FVec Ideal S2x256x10784 .f32 :=
  Host.dotGeneral dot_S2x256x1024_S1024x10784_S2x256x10784_2_0_01_1_n_n none H A4

/-- The two products, one after the other. -/
def both (X : FVec Ideal S2x8192x10784 .f32) (C : FVec Ideal S2x256x10784 .f32) : FVec Ideal S16896x10784 .f32 :=
  concatenate S16896x10784 0 [⟨S16384x10784, (shapeCast _ X shapeCasts_S2x8192x10784_S16384x10784)⟩,
    ⟨S512x10784, (shapeCast _ C shapeCasts_S2x256x10784_S512x10784)⟩] concatenates_S16384x10784_S512x10784_S16896x10784_d0

/-- The columns of the first result. -/
def mains (Q : FVec Ideal S16896x10784 .f32) : FVec Ideal S16896x10752 .bf16 :=
  truncf .bf16 (concatenate S16896x10752 1 [
    ⟨S16896x4096, (extractStridedSlice S16896x4096 ![0, 6688] Q slices_S16896x10784_S16896x4096_0_6688)⟩,
    ⟨S16896x1536, (extractStridedSlice S16896x1536 ![0, 0] Q slices_S16896x10784_S16896x1536_0_0)⟩,
    ⟨S16896x1536, (extractStridedSlice S16896x1536 ![0, 1536] Q slices_S16896x10784_S16896x1536_0_1536)⟩,
    ⟨S16896x512, (extractStridedSlice S16896x512 ![0, 3072] Q slices_S16896x10784_S16896x512_0_3072)⟩,
    ⟨S16896x1536, (extractStridedSlice S16896x1536 ![0, 3616] Q slices_S16896x10784_S16896x1536_0_3616)⟩,
    ⟨S16896x1536, (extractStridedSlice S16896x1536 ![0, 5152] Q slices_S16896x10784_S16896x1536_0_5152)⟩]
    concatenates_S16896x4096_S16896x1536_S16896x1536_S16896x512_S16896x1536_S16896x1536_S16896x10752_d1) bitsLt_bf16_f32

/-- The columns of the second. -/
def decays (Q : FVec Ideal S16896x10784 .f32) : FVec Ideal S16896x128 .f32 :=
  concatenate S16896x128 1 [
    ⟨S16896x16, (extractStridedSlice S16896x16 ![0, 3584] Q slices_S16896x10784_S16896x16_0_3584)⟩,
    ⟨S16896x16, (extractStridedSlice S16896x16 ![0, 3600] Q slices_S16896x10784_S16896x16_0_3600)⟩,
    ⟨S16896x96, (broadcastInDim S16896x96 ![] bcast_S_S16896x96 (constant S_ .f32 0x00000000#32))⟩]
    concatenates_S16896x16_S16896x16_S16896x96_S16896x128_d1

/-! ## Their elements -/

theorem hx_apply (A0 : FVec Ideal S2x8192x1024 .f32) (A2 : FVec Ideal S2x6144 .f32) (b : Fin 2) (r : Fin 8192) (k : Fin 1024) :
    hx A0 A2 (ix3 (n0 := 2) (n1 := 8192) (n2 := 1024) b r k)
      = lnRow (fun k => A0 (ix3 (n0 := 2) (n1 := 8192) (n2 := 1024) b r k))
          (fun k => A2 (ix2 (n0 := 2) (n1 := 6144) b ⟨1024 + k.val, by omega⟩) + 1)
          (fun k => A2 (ix2 (n0 := 2) (n1 := 6144) b ⟨k.val, by omega⟩)) k := by
  pointwise [hx, devX, meanX]
  unfold lnRow
  rw [add_comm (1 : EReal)]
  rfl

theorem hc_apply (A1 : FVec Ideal S2x256x1024 .f32) (A3 : FVec Ideal S6144 .f32) (b : Fin 2) (r : Fin 256) (k : Fin 1024) :
    hc A1 A3 (ix3 (n0 := 2) (n1 := 256) (n2 := 1024) b r k)
      = lnRow (fun k => A1 (ix3 (n0 := 2) (n1 := 256) (n2 := 1024) b r k))
          (fun k => A3 (ix1 (n0 := 6144) ⟨1024 + k.val, by omega⟩) + 1)
          (fun k => A3 (ix1 (n0 := 6144) ⟨k.val, by omega⟩)) k := by
  pointwise [hc, devC, meanC]
  unfold lnRow
  rw [add_comm (1 : EReal)]
  rfl

theorem px_apply (H : FVec Ideal S2x8192x1024 .f32) (A4 : FVec Ideal S1024x10784 .f32) (b : Fin 2) (r : Fin 8192) (n : Fin 10784) :
    px H A4 (ix3 (n0 := 2) (n1 := 8192) (n2 := 10784) b r n)
      = ∑ k, H (ix3 (n0 := 2) (n1 := 8192) (n2 := 1024) b r k) * A4 (ix2 (n0 := 1024) (n1 := 10784) k n) := by
  pointwise [px]

theorem pc_apply (H : FVec Ideal S2x256x1024 .f32) (A4 : FVec Ideal S1024x10784 .f32) (b : Fin 2) (r : Fin 256) (n : Fin 10784) :
    pc H A4 (ix3 (n0 := 2) (n1 := 256) (n2 := 10784) b r n)
      = ∑ k, H (ix3 (n0 := 2) (n1 := 256) (n2 := 1024) b r k) * A4 (ix2 (n0 := 1024) (n1 := 10784) k n) := by
  pointwise [pc]

theorem both_apply (X : FVec Ideal S2x8192x10784 .f32) (C : FVec Ideal S2x256x10784 .f32) (R : Fin 16896) (n : Fin 10784) :
    both X C (ix2 (n0 := 16896) (n1 := 10784) R n)
      = if h : R.val < 16384 then X (ix3 (n0 := 2) (n1 := 8192) (n2 := 10784) ⟨R.val / 8192, by omega⟩ ⟨R.val % 8192, by omega⟩ n)
        else C (ix3 (n0 := 2) (n1 := 256) (n2 := 10784) ⟨(R.val - 16384) / 256, by omega⟩ ⟨(R.val - 16384) % 256, by omega⟩ n) := by
  pointwise [both]

theorem mains_apply (Q : FVec Ideal S16896x10784 .f32) (R : Fin 16896) (n : Fin 10752) :
    mains Q (ix2 (n0 := 16896) (n1 := 10752) R n) = Q (ix2 (n0 := 16896) (n1 := 10784) R (col n)) := by
  pointwise [mains]
  split_ifs
  all_goals
    refine congrArg (fun y => Q (ix2 (n0 := 16896) (n1 := 10784) R y)) (Fin.ext ?_)
    simp only [col]
    split_ifs <;> omega

theorem decays_apply (Q : FVec Ideal S16896x10784 .f32) (R : Fin 16896) (n : Fin 128) :
    decays Q (ix2 (n0 := 16896) (n1 := 128) R n)
      = if h : n.val < 32 then Q (ix2 (n0 := 16896) (n1 := 10784) R ⟨3584 + n.val, by omega⟩) else 0 := by
  pointwise [decays]
  by_cases h : n.val < 32
  · refine Eq.trans ?_ (dif_pos h).symm
    by_cases h1 : n.val < 16
    · exact dif_pos h1
    · refine (dif_neg h1).trans ((dif_pos (show n.val - 16 < 16 by omega)).trans ?_)
      refine congrArg (fun y => Q (ix2 (n0 := 16896) (n1 := 10784) R y)) (Fin.ext ?_)
      show 3600 + (n.val - 16) = 3584 + n.val
      omega
  · exact ((dif_neg (show ¬ n.val < 16 by omega)).trans (dif_neg (show ¬ n.val - 16 < 16 by omega))).trans (dif_neg h).symm

/-! ## The results -/

/-- A normalized row is a function of its three rows' elements. -/
theorem lnRow_congr {x x' sc sc' sh sh' : Fin 1024 → EReal} (hx : ∀ k, x k = x' k) (hc : ∀ k, sc k = sc' k) (hh : ∀ k, sh k = sh' k)
    (k : Fin 1024) : lnRow x sc sh k = lnRow x' sc' sh' k := by
  rw [funext hx, funext hc, funext hh]

section

variable (A0 : FVec Ideal S2x8192x1024 .f32) (A1 : FVec Ideal S2x256x1024 .f32) (A2 : FVec Ideal S2x6144 .f32)
  (A3 : FVec Ideal S6144 .f32) (A4 : FVec Ideal S1024x10784 .f32)

/-- The whole product. -/
def prod : FVec Ideal S16896x10784 .f32 := both (px (hx A0 A2) A4) (pc (hc A1 A3) A4)

theorem prod_apply (R : Fin 16896) (n : Fin 10784) :
    prod A0 A1 A2 A3 A4 (ix2 (n0 := 16896) (n1 := 10784) R n)
      = dot (fun b i k => A0 (ix3 (n0 := 2) (n1 := 8192) (n2 := 1024) b i k)) (fun b i k => A1 (ix3 (n0 := 2) (n1 := 256) (n2 := 1024) b i k))
          (fun b j => A2 (ix2 (n0 := 2) (n1 := 6144) b j)) (fun j => A3 (ix1 (n0 := 6144) j))
          (fun k j => A4 (ix2 (n0 := 1024) (n1 := 10784) k j)) R n := by
  unfold prod
  rw [both_apply]
  unfold dot row
  by_cases h : R.val < 16384
  · refine (dif_pos h).trans ((px_apply _ _ _ _ _).trans (Finset.sum_congr rfl fun k _ => congrArg (· * _) ((hx_apply _ _ _ _ _).trans ?_)))
    refine lnRow_congr (fun k => ?_) (fun k => ?_) (fun k => ?_) k
    · unfold tok; rw [dif_pos h]
    · unfold scale; rw [dif_pos h]
    · unfold shift; rw [dif_pos h]
  · refine (dif_neg h).trans ((pc_apply _ _ _ _ _).trans (Finset.sum_congr rfl fun k _ => congrArg (· * _) ((hc_apply _ _ _ _ _).trans ?_)))
    refine lnRow_congr (fun k => ?_) (fun k => ?_) (fun k => ?_) k
    · unfold tok; rw [dif_neg h]
    · unfold scale; rw [dif_neg h]
    · unfold shift; rw [dif_neg h]

/-- The first result, at row and column. -/
theorem mains_eq : mains (prod A0 A1 A2 A3 A4)
    = fun y => proj (fun b i k => A0 (ix3 (n0 := 2) (n1 := 8192) (n2 := 1024) b i k))
        (fun b i k => A1 (ix3 (n0 := 2) (n1 := 256) (n2 := 1024) b i k))
        (fun b j => A2 (ix2 (n0 := 2) (n1 := 6144) b j)) (fun j => A3 (ix1 (n0 := 6144) j))
        (fun k j => A4 (ix2 (n0 := 1024) (n1 := 10784) k j)) (y 0) (y 1) := by
  funext y
  obtain ⟨R, n, rfl⟩ : ∃ (R : Fin 16896) (n : Fin 10752), y = ix2 (n0 := 16896) (n1 := 10752) R n :=
    ⟨y 0, y 1, by funext a; fin_cases a <;> rfl⟩
  exact (mains_apply _ R n).trans (prod_apply A0 A1 A2 A3 A4 R (col n))

/-- The second, at row and column. -/
theorem decays_eq : decays (prod A0 A1 A2 A3 A4)
    = fun y => decay (fun b i k => A0 (ix3 (n0 := 2) (n1 := 8192) (n2 := 1024) b i k))
        (fun b i k => A1 (ix3 (n0 := 2) (n1 := 256) (n2 := 1024) b i k))
        (fun b j => A2 (ix2 (n0 := 2) (n1 := 6144) b j)) (fun j => A3 (ix1 (n0 := 6144) j))
        (fun k j => A4 (ix2 (n0 := 1024) (n1 := 10784) k j)) (y 0) (y 1) := by
  funext y
  obtain ⟨R, n, rfl⟩ : ∃ (R : Fin 16896) (n : Fin 128), y = ix2 (n0 := 16896) (n1 := 128) R n :=
    ⟨y 0, y 1, by funext a; fin_cases a <;> rfl⟩
  refine (decays_apply _ R n).trans ?_
  simp only [prod_apply]
  rfl

end

variable (m : (ℓ : Loc nD τ sig) → Buf (Elt Ideal) ℓ) (c : Dev nD)

theorem main_steps : Cert.Reference2Ideal.Value.res_main_v78 (F := Ideal) m c
    = mains (prod (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := rfl

theorem decay_steps : Cert.Reference2Ideal.Value.res_main_v77 (F := Ideal) m c
    = decays (prod (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := rfl

end Cert.Proof.ProjRef

end
-- ==== Proof.MergeFinite.lean ====
/-
  What the merge's precondition says: every element of the recurrence's two outputs is a real number.
-/
module

public import proofs.«01_k».proof.Proof.Finite

@[expose] public section

noncomputable section

namespace Cert.Proof.MergeFinite

open Idealize.ShloMosaic

/-- The shapes of the precondition's operations agree. -/
theorem facts : Cert.Pre_finite3.Facts := by
  constructor <;> decide

instance : Subsingleton Cert.Pre_finite3.S_.Idx := ⟨fun _ _ => funext fun a => a.elim0⟩

open Cert.Pre_finite3 in
/-- Under the precondition the recurrence's outputs are real. -/
theorem reals [Cert.Pre_finite3.Facts] (A0 : FVec Ideal S16896x1024 .f32) (A1 : FVec Ideal S16896x512 .f32)
    (A2 A3 : FVec Ideal S2x8448x512 .f32) (A4 A5 : FVec Ideal S16896x512 .f32) (A6 : FVec Ideal S16896x10752 .bf16)
    (A7 : FVec Ideal S2x6144 .f32) (A8 : FVec Ideal S6144 .f32) (A9 : FVec Ideal S4x512x1024 .f32) (A10 : FVec Ideal S1024x1024 .f32)
    (A11 : FVec Ideal S64 .f32) (A12 A13 : FVec Ideal S1024 .f32)
    (h : Cert.Pre_finite3.fn (F := Ideal) A0 A1 A2 A3 A4 A5 A6 A7 A8 A9 A10 A11 A12 A13 = fun _ => 1#1) :
    (∀ x, ∃ r : ℝ, A2 x = (r : EReal)) ∧ (∀ x, ∃ r : ℝ, A3 x = (r : EReal)) := by
  have e := congrFun h ix0
  obtain ⟨e0, e1⟩ := IntOp.andi_eq_one.1 e
  exact ⟨fun x => Finite.real_of_cmp _ (Host.reduce_andi_all _ _ _ _ _ e0 x), fun x => Finite.real_of_cmp _ (Host.reduce_andi_all _ _ _ _ _ e1 x)⟩

end Cert.Proof.MergeFinite

end
-- ==== Proof.MergeSpec.lean ====
/-
  The merge of the four branches element by element: the recurrence's output normalized and gated, the branches' products with
  their weights, their gated sum against the output weights, and the layer norm of the residual.
-/
module

public import proofs.«01_k».proof.Proof.ProjSpec

@[expose] public section

noncomputable section

namespace Cert.Proof.MergeSpec

open Idealize.ShloMosaic

/-- Row `R` of the token order, of an array whose rows are in the recurrence's order: the context's 256 rows, then the latent's. -/
def inOrder (y : Fin 2 → Fin 8448 → Fin 512 → EReal) (R : Fin 16896) (j : Fin 512) : EReal :=
  if h : R.val < 16384 then y ⟨R.val / 8192, by omega⟩ ⟨256 + R.val % 8192, by omega⟩ j
  else y ⟨(R.val - 16384) / 256, by omega⟩ ⟨(R.val - 16384) % 256, by omega⟩ j

/-- The mean of the squares over the 64 columns of a head. -/
def headMean (o : Fin 512 → EReal) (j : Fin 512) : EReal :=
  Ideal.div (∑ x : Fin 64, o ⟨64 * (j.val / 64) + x.val, by omega⟩ * o ⟨64 * (j.val / 64) + x.val, by omega⟩)
    (Ideal.ofBits FTy.f32 0x42800000#32)

/-- A row divided by its heads' root mean squares, and weighted. -/
def rms (gn : Fin 64 → EReal) (o : Fin 512 → EReal) (j : Fin 512) : EReal :=
  o j * Ideal.rsqrt (headMean o j + Ideal.ofBits FTy.f32 0x358637BD#32) * gn ⟨j.val % 64, by omega⟩

/-- The gate. -/
def sig (x : EReal) : EReal := Ideal.div 1 (1 + Ideal.exp (-x))

section

variable (tk : Fin 16896 → Fin 1024 → EReal) (ya yc yd : Fin 16896 → Fin 512 → EReal) (o₁ o₂ : Fin 2 → Fin 8448 → Fin 512 → EReal)
  (pr : Fin 16896 → Fin 10752 → EReal) (mx : Fin 2 → Fin 6144 → EReal) (mc : Fin 6144 → EReal)
  (bp : Fin 4 → Fin 512 → Fin 1024 → EReal) (wo : Fin 1024 → Fin 1024 → EReal) (gn : Fin 64 → EReal)

/-- The recurrence's branch: its two outputs' sum, normalized, and gated by the projection's columns from 7168 on. -/
def yb (R : Fin 16896) (j : Fin 512) : EReal :=
  rms gn (fun j => inOrder o₁ R j + inOrder o₂ R j) j
    * (pr R ⟨7168 + j.val, by omega⟩ * sig (pr R ⟨7168 + j.val, by omega⟩))

/-- A branch against its weights. -/
def branch (y : Fin 512 → EReal) (w : Fin 512 → Fin 1024 → EReal) (k : Fin 1024) : EReal := ∑ j, y j * w j k

/-- The branches' gated sum. -/
def total (R : Fin 16896) (k : Fin 1024) : EReal :=
  sig (pr R ⟨k.val, by omega⟩) * branch (ya R) (bp 0) k
    + sig (pr R ⟨1024 + k.val, by omega⟩) * branch (yb o₁ o₂ pr gn R) (bp 1) k
    + sig (pr R ⟨2048 + k.val, by omega⟩) * branch (yc R) (bp 2) k
    + sig (pr R ⟨3072 + k.val, by omega⟩) * branch (yd R) (bp 3) k

/-- The gate on the merge of a row. -/
def gateRow (R : Fin 16896) (k : Fin 1024) : EReal :=
  if h : R.val < 16384 then mx ⟨R.val / 8192, by omega⟩ ⟨2048 + k.val, by omega⟩ else mc ⟨2048 + k.val, by omega⟩

/-- The residual sum. -/
def resid (R : Fin 16896) (k : Fin 1024) : EReal :=
  Ideal.ofBits FTy.f32 0x3FD744FD#32 * tk R k
    + gateRow mx mc R k * ∑ j, total ya yc yd o₁ o₂ pr bp gn R j * wo j k

/-- The result. -/
def merged (g b : Fin 1024 → EReal) (R : Fin 16896) (k : Fin 1024) : EReal :=
  ProjSpec.lnRow (resid tk ya yc yd o₁ o₂ pr mx mc bp wo gn R) g b k

end

end Cert.Proof.MergeSpec

end
-- ==== Proof.MergeHost.lean ====
/-
  The arrays that the merge's kernel stages, as the host operations before it leave them: the arguments themselves, the modulation
  of each group of rows, the matrix that sums over a head's columns, and the norm's weights repeated over the heads.
-/
module

public import proofs.«01_k».proof.Proof.Gen.Kernel3Ideal.Value
public import proofs.«01_k».proof.Proof.MergeSpec
public import proofs.«01_k».proof.Proof.ProjHost
public import Idealize.ShloMosaic.Lib.Pipeline.ValueKit
public import Idealize.ShloMosaic.Lib.StableHlo.ReadAt

@[expose] public section

set_option maxRecDepth 100000

noncomputable section

namespace Cert.Proof.MergeHost

open Cert.Kernel3Ideal Cert.Kernel3Ideal.Gen
open Idealize.ShloMosaic Idealize.ShloMosaic.TcCoe
open Cert.Proof.MergeSpec (gateRow)

variable (m : (ℓ : Loc nD τ sig) → Buf (Elt Ideal) ℓ) (c : Dev nD)

/-- The argument arrays' elements. -/
def tk (R : Fin 16896) (k : Fin 1024) : EReal := m ((c : Thread nD τ).loc main_arg0) (ix2 (n0 := 16896) (n1 := 1024) R k)
def ya (R : Fin 16896) (j : Fin 512) : EReal := m ((c : Thread nD τ).loc main_arg1) (ix2 (n0 := 16896) (n1 := 512) R j)
def o₁ (b : Fin 2) (r : Fin 8448) (j : Fin 512) : EReal := m ((c : Thread nD τ).loc main_arg2) (ix3 (n0 := 2) (n1 := 8448) (n2 := 512) b r j)
def o₂ (b : Fin 2) (r : Fin 8448) (j : Fin 512) : EReal := m ((c : Thread nD τ).loc main_arg3) (ix3 (n0 := 2) (n1 := 8448) (n2 := 512) b r j)
def yc (R : Fin 16896) (j : Fin 512) : EReal := m ((c : Thread nD τ).loc main_arg4) (ix2 (n0 := 16896) (n1 := 512) R j)
def yd (R : Fin 16896) (j : Fin 512) : EReal := m ((c : Thread nD τ).loc main_arg5) (ix2 (n0 := 16896) (n1 := 512) R j)
def pr (R : Fin 16896) (n : Fin 10752) : EReal := m ((c : Thread nD τ).loc main_arg6) (ix2 (n0 := 16896) (n1 := 10752) R n)
def mx (b : Fin 2) (n : Fin 6144) : EReal := m ((c : Thread nD τ).loc main_arg7) (ix2 (n0 := 2) (n1 := 6144) b n)
def mc (n : Fin 6144) : EReal := m ((c : Thread nD τ).loc main_arg8) (ix1 (n0 := 6144) n)
def bp (i : Fin 4) (j : Fin 512) (k : Fin 1024) : EReal := m ((c : Thread nD τ).loc main_arg9) (ix3 (n0 := 4) (n1 := 512) (n2 := 1024) i j k)
def wo (j k : Fin 1024) : EReal := m ((c : Thread nD τ).loc main_arg10) (ix2 (n0 := 1024) (n1 := 1024) j k)
def gn (j : Fin 64) : EReal := m ((c : Thread nD τ).loc main_arg11) (ix1 (n0 := 64) j)
def lg (k : Fin 1024) : EReal := m ((c : Thread nD τ).loc main_arg12) (ix1 (n0 := 1024) k)
def lb (k : Fin 1024) : EReal := m ((c : Thread nD τ).loc main_arg13) (ix1 (n0 := 1024) k)

theorem V_tk (R : Fin 16896) (k : Fin 1024) : V m c main_arg0 (ix2 (n0 := 16896) (n1 := 1024) R k) = tk m c R k := by
  unfold V; after_reads_at; rfl
theorem V_ya (R : Fin 16896) (j : Fin 512) : V m c main_arg1 (ix2 (n0 := 16896) (n1 := 512) R j) = ya m c R j := by
  unfold V; after_reads_at; rfl
theorem V_o₁ (b : Fin 2) (r : Fin 8448) (j : Fin 512) :
    V m c main_arg2 (ix3 (n0 := 2) (n1 := 8448) (n2 := 512) b r j) = o₁ m c b r j := by
  unfold V; after_reads_at; rfl
theorem V_o₂ (b : Fin 2) (r : Fin 8448) (j : Fin 512) :
    V m c main_arg3 (ix3 (n0 := 2) (n1 := 8448) (n2 := 512) b r j) = o₂ m c b r j := by
  unfold V; after_reads_at; rfl
theorem V_yc (R : Fin 16896) (j : Fin 512) : V m c main_arg4 (ix2 (n0 := 16896) (n1 := 512) R j) = yc m c R j := by
  unfold V; after_reads_at; rfl
theorem V_yd (R : Fin 16896) (j : Fin 512) : V m c main_arg5 (ix2 (n0 := 16896) (n1 := 512) R j) = yd m c R j := by
  unfold V; after_reads_at; rfl
theorem V_pr (R : Fin 16896) (n : Fin 10752) : V m c main_arg6 (ix2 (n0 := 16896) (n1 := 10752) R n) = pr m c R n := by
  unfold V; after_reads_at; rfl
theorem V_bp (i : Fin 4) (j : Fin 512) (k : Fin 1024) :
    V m c main_v14 (ix3 (n0 := 4) (n1 := 512) (n2 := 1024) i j k) = bp m c i j k := by
  unfold V; after_reads_at; rfl
theorem V_wo (j k : Fin 1024) : V m c main_v15 (ix2 (n0 := 1024) (n1 := 1024) j k) = wo m c j k := by
  unfold V; after_reads_at; rfl
theorem V_gn (j : Fin 512) : V m c main_v29 (ix2 (n0 := 1) (n1 := 512) 0 j) = gn m c ⟨j.val % 64, by omega⟩ := by
  unfold V; after_reads_at; rfl
theorem V_lg (k : Fin 1024) : V m c main_v30 (ix2 (n0 := 1) (n1 := 1024) 0 k) = lg m c k := by
  unfold V; after_reads_at; rfl
theorem V_lb (k : Fin 1024) : V m c main_v31 (ix2 (n0 := 1) (n1 := 1024) 0 k) = lb m c k := by
  unfold V; after_reads_at; rfl

theorem table_zero (i : Fin 6) (h : i.val = 2) : lit0 i = 0x00000000#32 := by
  rw [show i = (⟨2, by decide⟩ : Fin 6) from Fin.ext h]; rfl

/-- The modulation's gates of the 256 rows that `R` lies in. -/
theorem V_gate (g : Fin 66) (k : Fin 1024) (R : Fin 16896) (hg : g.val = R.val / 256) :
    V m c main_v13 (ix3 (n0 := 66) (n1 := 6) (n2 := 1024) g 2 k) = gateRow (mx m c) (mc m c) R k := by
  unfold V; after_reads_at
  by_cases h : g.val < 64
  · refine (dif_pos h).trans (Eq.trans ?_ (dif_pos (show R.val < 16384 by omega)).symm)
    refine Eq.trans (congrArg₂ (· + ·) ?_ ((congrArg (Ideal.ofBits FTy.f32) (table_zero _ (rowMajor_val1 _))).trans ProjHost.bits_zero)) (add_zero _)
    refine congrArg (fun i => mx m c i ⟨2048 + k.val, by omega⟩) (Fin.ext ?_)
    show g.val / 32 = R.val / 8192
    omega
  · refine (dif_neg h).trans (Eq.trans ?_ (dif_neg (show ¬ R.val < 16384 by omega)).symm)
    exact Eq.trans (congrArg₂ (· + ·) rfl ((congrArg (Ideal.ofBits FTy.f32) (table_zero _ (rowMajor_val1 _))).trans ProjHost.bits_zero)) (add_zero _)

/-- The head that a column lies in, as the host operations compute it. -/
def head (i : Fin 512) : BitVec 32 :=
  Scalar.select
    (IntOp.andi
      (IntOp.cmpi .ne (if BitVec.ofNat 32 i.val = 0 then (0 : BitVec 32) else if (BitVec.ofNat 32 i.val).msb = true then -1 else 1)
        (if 64#32 = 0 then (0 : BitVec 32) else if BitVec.msb 64#32 = true then -1 else 1))
      (IntOp.cmpi .ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)

theorem head_eq : ∀ i : Fin 512, head i = BitVec.ofNat 32 (i.val / 64) := by decide +kernel

/-- The matrix that sums over a head's columns. -/
theorem V_sum (i j : Fin 512) :
    V m c main_v25 (ix2 (n0 := 512) (n1 := 512) i j) = (if i.val / 64 = j.val / 64 then (1 : EReal) else 0) := by
  unfold V; after_reads_at
  refine Eq.trans (b := FloatOps.uitofp (F := Ideal) FTy.bf16 (IntOp.cmpi .eq (head i) (head j))) rfl ?_
  rw [head_eq, head_eq]
  by_cases h : i.val / 64 = j.val / 64
  · rw [if_pos h, h]
    simp [IntOp.cmpi, FloatOps.uitofp]
  · rw [if_neg h]
    have : BitVec.ofNat 32 (i.val / 64) ≠ BitVec.ofNat 32 (j.val / 64) := fun e => h (by
      have e := congrArg BitVec.toNat e
      simp only [BitVec.toNat_ofNat] at e
      omega)
    simp [IntOp.cmpi, FloatOps.uitofp, this]

end Cert.Proof.MergeHost

end
-- ==== Proof.MergeMath.lean ====
/-
  Two facts about the recurrence's branch: the product with the matrix that sums over a head's columns is that sum, and the part of
  a real square that the kernel rounds off is zero.
-/
module

public import proofs.«01_k».proof.Proof.MergeSpec
public import proofs.«01_k».proof.Proof.Algebra

@[expose] public section

noncomputable section

namespace Cert.Proof.MergeMath

open Idealize.ShloMosaic
open Cert.Proof.MergeSpec (headMean)

/-- The pattern of 64. -/
theorem bits_64 : Ideal.ofBits FTy.f32 0x42800000#32 = ((64 : ℝ) : EReal) := by
  simp [Ideal.ofBits, Ideal.ieee, -EReal.coe_mul]; norm_num

/-- The pattern of a sixty-fourth. -/
theorem bits_64th : Ideal.ofBits FTy.f32 0x3C800000#32 = ((1 / 64 : ℝ) : EReal) := by
  simp [Ideal.ofBits, Ideal.ieee, -EReal.coe_mul]; norm_num

/-- A sum over the columns, of those of one head. -/
theorem sum_head (f : Fin 512 → EReal) (j : Fin 512) :
    (∑ x : Fin 512, f x * (if x.val / 64 = j.val / 64 then (1 : EReal) else 0))
      = ∑ x : Fin 64, f ⟨64 * (j.val / 64) + x.val, by omega⟩ := by
  simp only [mul_ite, mul_one, mul_zero]
  rw [← Finset.sum_filter]
  refine (Finset.sum_bij (fun (x : Fin 64) _ => (⟨64 * (j.val / 64) + x.val, by omega⟩ : Fin 512)) ?_ ?_ ?_ ?_).symm
  · intro x _
    exact Finset.mem_filter.2 ⟨Finset.mem_univ _, by show (64 * (j.val / 64) + x.val) / 64 = j.val / 64; omega⟩
  · intro x _ y _ e
    have e := congrArg Fin.val e
    exact Fin.ext (by simp only at e; omega)
  · intro y hy
    have hy := (Finset.mem_filter.1 hy).2
    exact ⟨⟨y.val % 64, by omega⟩, Finset.mem_univ _, Fin.ext (by show 64 * (j.val / 64) + y.val % 64 = y.val; omega)⟩
  · intro x _; rfl

/-- The mean the kernel computes of real columns: the parts rounded off are zero, and the sixty-fourth of the sum is the quotient. -/
theorem mean_eq (o : Fin 512 → EReal) (ho : ∀ j, ∃ r : ℝ, o j = (r : EReal)) (H : Fin 512 → Fin 512 → EReal)
    (hH : ∀ i j, H i j = if i.val / 64 = j.val / 64 then (1 : EReal) else 0) (j : Fin 512) :
    ((∑ x, o x * o x * H x j) + ∑ x, (o x * o x - o x * o x) * H x j) * Ideal.ofBits FTy.f32 0x3C800000#32 = headMean o j := by
  have z (x : Fin 512) : o x * o x - o x * o x = 0 := by
    obtain ⟨r, e⟩ := ho x
    rw [e, ← EReal.coe_mul, ← EReal.coe_sub, sub_self]; rfl
  simp only [z, zero_mul, Finset.sum_const_zero, add_zero, hH]
  rw [sum_head (fun x => o x * o x), headMean, bits_64, bits_64th, Ideal.div_coe (by norm_num)]

end Cert.Proof.MergeMath

end
-- ==== Proof.MergeValue.lean ====
/-
  The array that the merge's kernel returns: what a point's body leaves in its block, each block read off the argument arrays, and
  the array put together from the blocks.
-/
module

public import proofs.«01_k».proof.Proof.MergeHost
public import proofs.«01_k».proof.Proof.MergeMath
public import Idealize.ShloMosaic.Lib.Pipeline.ValueKit
public import Idealize.ShloMosaic.Lib.StableHlo.ReadAt

@[expose] public section

set_option maxRecDepth 8192

noncomputable section

namespace Cert.Proof.MergeValue

open Cert.Kernel3Ideal Cert.Kernel3Ideal.Gen Cert.Proof.MergeHost
open Idealize.ShloMosaic Idealize.ShloMosaic.TcCoe
open Cert.Proof.MergeSpec (inOrder headMean rms sig yb branch total gateRow resid merged)

/-! ## The body -/

/-- The first index of an array of two axes, and of one of three. -/
theorem hz : (![0, 0] : Fin 2 → Nat) = fun _ => 0 := funext fun a => by fin_cases a <;> rfl
theorem hz3 : (![0, 0, 0] : Fin 3 → Nat) = fun _ => 0 := funext fun a => by fin_cases a <;> rfl

/-- The gate's columns of a branch. -/
def gates (X : Vec Ideal S256x4096 .bf16) (i : Fin 4) : Vec Ideal S256x1024 .bf16 := fun y =>
  X (ix2 (n0 := 256) (n1 := 4096) (y 0) ⟨1024 * i.val + (y 1).val, by have : (y 1).val < 1024 := (y 1).isLt; omega⟩)

/-- A branch's weights. -/
def weights (X : Vec Ideal S4x512x1024 .bf16) (i : Fin 4) : Vec Ideal S1x512x1024 .bf16 := fun y =>
  X (ix3 (n0 := 4) (n1 := 512) (n2 := 1024) i (y 1) (y 2))

/-- The merge's row of the modulation. -/
def modRow (X : Vec Ideal S1x6x1024 .f32) : Vec Ideal S1x1x1024 .f32 := fun y =>
  X (ix3 (n0 := 1) (n1 := 6) (n2 := 1024) 0 2 (y 2))
/-! What a load reads. -/

theorem ld_gates (X : Vec Ideal S256x4096 .bf16) (i : Fin 4) (off : Fin 2 → Nat) (h0 : off 0 = 0) (h1 : off 1 = 1024 * i.val) (inb) :
    View.ld X (Rect.unit (s := S256x4096) off ![256, 1024] inb) = gates X i := by
  funext y
  refine congrArg X (funext fun a => Fin.ext ?_)
  match a with
  | ⟨0, _⟩ => show off 0 + 1 * (y 0).val = (y 0).val; omega
  | ⟨1, _⟩ => show off 1 + 1 * (y 1).val = 1024 * i.val + (y 1).val; omega

theorem ld_weights (X : Vec Ideal S4x512x1024 .bf16) (i : Fin 4) (off : Fin 3 → Nat) (h0 : off 0 = i.val) (h1 : off 1 = 0) (h2 : off 2 = 0) (inb) :
    View.ld X (Rect.unit (s := S4x512x1024) off ![1, 512, 1024] inb) = weights X i := by
  funext y
  refine congrArg X (funext fun a => Fin.ext ?_)
  match a with
  | ⟨0, _⟩ => show off 0 + 1 * (y 0).val = i.val; have : (y 0).val < 1 := (y 0).isLt; omega
  | ⟨1, _⟩ => show off 1 + 1 * (y 1).val = (y 1).val; omega
  | ⟨2, _⟩ => show off 2 + 1 * (y 2).val = (y 2).val; omega

theorem ld_mod (X : Vec Ideal S1x6x1024 .f32) (inb) :
    View.ld X (Rect.unit (s := S1x6x1024) ![0, 2, 0] ![1, 1, 1024] inb) = modRow X := by
  funext y
  refine congrArg X (funext fun a => Fin.ext ?_)
  match a with
  | ⟨0, _⟩ => show 0 + 1 * (y 0).val = 0; have : (y 0).val < 1 := (y 0).isLt; omega
  | ⟨1, _⟩ => show 2 + 1 * (y 1).val = 2; have : (y 1).val < 1 := (y 1).isLt; omega
  | ⟨2, _⟩ => show 0 + 1 * (y 2).val = (y 2).val; omega

theorem ld_256x512 {e : EltTy} (X : Vec Ideal S256x512 e) (inb) : View.ld X (Rect.unit (s := S256x512) ![0, 0] ![256, 512] inb) = X :=
  View.ld_unit_zero hz inb X
theorem ld_512x512 {e : EltTy} (X : Vec Ideal S512x512 e) (inb) : View.ld X (Rect.unit (s := S512x512) ![0, 0] ![512, 512] inb) = X :=
  View.ld_unit_zero hz inb X
theorem ld_1x512 {e : EltTy} (X : Vec Ideal S1x512 e) (inb) : View.ld X (Rect.unit (s := S1x512) ![0, 0] ![1, 512] inb) = X :=
  View.ld_unit_zero hz inb X
theorem ld_1024x1024 {e : EltTy} (X : Vec Ideal S1024x1024 e) (inb) : View.ld X (Rect.unit (s := S1024x1024) ![0, 0] ![1024, 1024] inb) = X :=
  View.ld_unit_zero hz inb X
theorem ld_256x1024 {e : EltTy} (X : Vec Ideal S256x1024 e) (inb) : View.ld X (Rect.unit (s := S256x1024) ![0, 0] ![256, 1024] inb) = X :=
  View.ld_unit_zero hz inb X
theorem ld_1x1024 {e : EltTy} (X : Vec Ideal S1x1024 e) (inb) : View.ld X (Rect.unit (s := S1x1024) ![0, 0] ![1, 1024] inb) = X :=
  View.ld_unit_zero hz inb X
theorem ld_1x256x512 {e : EltTy} (X : Vec Ideal S1x256x512 e) (inb) : View.ld X (Rect.unit (s := S1x256x512) ![0, 0, 0] ![1, 256, 512] inb) = X :=
  View.ld_unit_zero hz3 inb X
variable (m : (ℓ : Loc nD τ sig) → Buf (Elt Ideal) ℓ) (c : Dev nD)

/-- What a point's body leaves in the output's block: the one store's payload at what the loads read. -/
theorem out_eq (t : Fin cfg0.N) : outsAt0 m c t = k0_pay1 (F := Ideal)
      (k0_pay3 (k0_pay2 (iblk m c 2 t) (iblk m c 3 t) (iblk m c 12 t) (iblk m c 12 t) (iblk m c 7 t) (iblk m c 11 t))
        (iblk m c 1 t) (iblk m c 4 t) (iblk m c 5 t)
        (weights (iblk m c 9 t) 0) (gates (X0_6 m c t) 0) (weights (iblk m c 9 t) 1) (gates (X0_6 m c t) 1)
        (weights (iblk m c 9 t) 2) (gates (X0_6 m c t) 2) (weights (iblk m c 9 t) 3) (gates (X0_6 m c t) 3))
      (iblk m c 10 t) (iblk m c 0 t) (modRow (iblk m c 8 t)) (iblk m c 13 t) (iblk m c 14 t) := by
  unfold outsAt0 out0_A_15
  rw [View.read_writes_junk_eq_canon]
  unfold kernelRun0_A
  dsimp only
  unfold kernelRun0_A.sl.r_4
  refine (View.canon_unit_zero hz _ _).trans ?_
  unfold kernelRun0_A.sl.r kernelRun0_A.sl.r_1 kernelRun0_A.sl.r_2 kernelRun0_A.sl.r_3
  simp only [View.readAt_eq_ld, Memref.IsWhole.read_unread]
  rw [ld_gates _ 0 ![0, 0] rfl rfl, ld_gates _ 1 ![0, 1024] rfl rfl, ld_gates _ 2 ![0, 2048] rfl rfl, ld_gates _ 3 ![0, 3072] rfl rfl,
    ld_weights _ 0 ![0, 0, 0] rfl rfl rfl, ld_weights _ 1 ![1, 0, 0] rfl rfl rfl, ld_weights _ 2 ![2, 0, 0] rfl rfl rfl,
    ld_weights _ 3 ![3, 0, 0] rfl rfl rfl, ld_mod]
  rw [ld_256x512, ld_256x512, ld_256x512, ld_256x512, ld_512x512, ld_1x512, ld_1024x1024, ld_256x1024, ld_1x1024, ld_1x1024, ld_1x256x512, ld_1x256x512]

/-! ## The payloads -/

theorem pay2_apply (A B : Vec Ideal S1x256x512 .f32) (H : Vec Ideal S512x512 .bf16) (Z : Vec Ideal S256x512 .bf16)
    (N : Vec Ideal S1x512 .f32) (r : Fin 256)
    (hr : ∀ j, ∃ x : ℝ, A (ix3 (n0 := 1) (n1 := 256) (n2 := 512) 0 r j) + B (ix3 (n0 := 1) (n1 := 256) (n2 := 512) 0 r j) = (x : EReal))
    (hH : ∀ i j, H (ix2 (n0 := 512) (n1 := 512) i j) = (if i.val / 64 = j.val / 64 then (1 : EReal) else 0)) (j : Fin 512) :
    k0_pay2 A B H H Z N (ix2 (n0 := 256) (n1 := 512) r j)
      = (A (ix3 (n0 := 1) (n1 := 256) (n2 := 512) 0 r j) + B (ix3 (n0 := 1) (n1 := 256) (n2 := 512) 0 r j))
          * Ideal.rsqrt (headMean (fun j => A (ix3 (n0 := 1) (n1 := 256) (n2 := 512) 0 r j) + B (ix3 (n0 := 1) (n1 := 256) (n2 := 512) 0 r j)) j
              + Ideal.ofBits FTy.f32 0x358637BD#32)
          * N (ix2 (n0 := 1) (n1 := 512) 0 j)
          * (Z (ix2 (n0 := 256) (n1 := 512) r j) * sig (Z (ix2 (n0 := 256) (n1 := 512) r j))) := by
  have e := MergeMath.mean_eq _ hr (fun i j => H (ix2 (n0 := 512) (n1 := 512) i j)) hH j
  pointwise [k0_pay2]
  rw [← e]
  rfl

theorem pay3_apply (Y : FVec Ideal S256x512 .f32) (Y0 Y2 Y3 : Vec Ideal S256x512 .f32) (W0 W1 W2 W3 : Vec Ideal S1x512x1024 .bf16)
    (G0 G1 G2 G3 : Vec Ideal S256x1024 .bf16) (r : Fin 256) (k : Fin 1024) :
    k0_pay3 Y Y0 Y2 Y3 W0 G0 W1 G1 W2 G2 W3 G3 (ix2 (n0 := 256) (n1 := 1024) r k)
      = sig (G0 (ix2 (n0 := 256) (n1 := 1024) r k)) * branch (fun j => Y0 (ix2 (n0 := 256) (n1 := 512) r j)) (fun j k => W0 (ix3 (n0 := 1) (n1 := 512) (n2 := 1024) 0 j k)) k
        + sig (G1 (ix2 (n0 := 256) (n1 := 1024) r k)) * branch (fun j => Y (ix2 (n0 := 256) (n1 := 512) r j)) (fun j k => W1 (ix3 (n0 := 1) (n1 := 512) (n2 := 1024) 0 j k)) k
        + sig (G2 (ix2 (n0 := 256) (n1 := 1024) r k)) * branch (fun j => Y2 (ix2 (n0 := 256) (n1 := 512) r j)) (fun j k => W2 (ix3 (n0 := 1) (n1 := 512) (n2 := 1024) 0 j k)) k
        + sig (G3 (ix2 (n0 := 256) (n1 := 1024) r k)) * branch (fun j => Y3 (ix2 (n0 := 256) (n1 := 512) r j)) (fun j k => W3 (ix3 (n0 := 1) (n1 := 512) (n2 := 1024) 0 j k)) k := by
  pointwise [k0_pay3]
  rfl

theorem pay1_apply (S : FVec Ideal S256x1024 .bf16) (W : Vec Ideal S1024x1024 .bf16) (X : Vec Ideal S256x1024 .f32)
    (M : Vec Ideal S1x1x1024 .f32) (g b : Vec Ideal S1x1024 .f32) (r : Fin 256) (k : Fin 1024) :
    k0_pay1 S W X M g b (ix2 (n0 := 256) (n1 := 1024) r k)
      = ProjSpec.lnRow (fun k => Ideal.ofBits FTy.f32 0x3FD744FD#32 * X (ix2 (n0 := 256) (n1 := 1024) r k)
            + M (ix3 (n0 := 1) (n1 := 1) (n2 := 1024) 0 0 k) * ∑ j, S (ix2 (n0 := 256) (n1 := 1024) r j) * W (ix2 (n0 := 1024) (n1 := 1024) j k))
          (fun k => g (ix2 (n0 := 1) (n1 := 1024) 0 k)) (fun k => b (ix2 (n0 := 1) (n1 := 1024) 0 k)) k := by
  pointwise [k0_pay1]
  rfl

/-! ## The blocks -/

/-- Row `r` of the rows that the point works on. -/
def rowAt (t : Fin cfg0.N) (r : Fin 256) : Fin 16896 := ⟨256 * t.val + r.val, by have : t.val < 66 := t.isLt; omega⟩

/-- A point, as a group of rows. -/
def groupAt (t : Fin cfg0.N) : Fin 66 := ⟨t.val, t.isLt⟩

theorem idx0 (t : Fin cfg0.N) : win0_0.index t = ![t.val, 0] := by revert t; decide +kernel
theorem idx1 (t : Fin cfg0.N) : win0_1.index t = ![t.val, 0] := by revert t; decide +kernel
theorem idx2 (t : Fin cfg0.N) (h : t.val < 64) : win0_2.index t = ![t.val / 32, 1 + t.val % 32, 0] := by revert t; decide +kernel
theorem idx2' (t : Fin cfg0.N) (h : ¬ t.val < 64) : win0_2.index t = ![t.val - 64, 0, 0] := by revert t; decide +kernel
theorem idx3 (t : Fin cfg0.N) (h : t.val < 64) : win0_3.index t = ![t.val / 32, 1 + t.val % 32, 0] := by revert t; decide +kernel
theorem idx3' (t : Fin cfg0.N) (h : ¬ t.val < 64) : win0_3.index t = ![t.val - 64, 0, 0] := by revert t; decide +kernel
theorem idx4 (t : Fin cfg0.N) : win0_4.index t = ![t.val, 0] := by revert t; decide +kernel
theorem idx5 (t : Fin cfg0.N) : win0_5.index t = ![t.val, 0] := by revert t; decide +kernel
theorem idx6 (t : Fin cfg0.N) : win0_6.index t = ![t.val, 0] := by revert t; decide +kernel
theorem idx7 (t : Fin cfg0.N) : win0_7.index t = ![t.val, 14] := by revert t; decide +kernel
theorem idx8 (t : Fin cfg0.N) : win0_8.index t = ![t.val, 0, 0] := by revert t; decide +kernel
theorem idx9 (t : Fin cfg0.N) : win0_9.index t = ![0, 0, 0] := by revert t; decide +kernel
theorem idx10 (t : Fin cfg0.N) : win0_10.index t = ![0, 0] := by revert t; decide +kernel
theorem idx11 (t : Fin cfg0.N) : win0_11.index t = ![0, 0] := by revert t; decide +kernel
theorem idx12 (t : Fin cfg0.N) : win0_12.index t = ![0, 0] := by revert t; decide +kernel
theorem idx13 (t : Fin cfg0.N) : win0_13.index t = ![0, 0] := by revert t; decide +kernel
theorem idx14 (t : Fin cfg0.N) : win0_14.index t = ![0, 0] := by revert t; decide +kernel
theorem idx15 (t : Fin cfg0.N) : win0_15.index t = ![t.val, 0] := by revert t; decide +kernel

theorem tk_block (t : Fin cfg0.N) (r : Fin 256) (k : Fin 1024) :
    iblk m c 0 t (ix2 (n0 := 256) (n1 := 1024) r k) = tk m c (rowAt t r) k := by
  rw [← V_tk m c]; blk_ext [iblk, idx0 t, rowAt]
theorem ya_block (t : Fin cfg0.N) (r : Fin 256) (j : Fin 512) :
    iblk m c 1 t (ix2 (n0 := 256) (n1 := 512) r j) = ya m c (rowAt t r) j := by
  rw [← V_ya m c]; blk_ext [iblk, idx1 t, rowAt]
theorem yc_block (t : Fin cfg0.N) (r : Fin 256) (j : Fin 512) :
    iblk m c 4 t (ix2 (n0 := 256) (n1 := 512) r j) = yc m c (rowAt t r) j := by
  rw [← V_yc m c]; blk_ext [iblk, idx4 t, rowAt]
theorem yd_block (t : Fin cfg0.N) (r : Fin 256) (j : Fin 512) :
    iblk m c 5 t (ix2 (n0 := 256) (n1 := 512) r j) = yd m c (rowAt t r) j := by
  rw [← V_yd m c]; blk_ext [iblk, idx5 t, rowAt]
theorem o₁_block (t : Fin cfg0.N) (r : Fin 256) (j : Fin 512) :
    iblk m c 2 t (ix3 (n0 := 1) (n1 := 256) (n2 := 512) 0 r j) = inOrder (o₁ m c) (rowAt t r) j := by
  have ht : t.val < 66 := t.isLt
  unfold inOrder
  by_cases h : t.val < 64
  · refine Eq.trans ?_ (dif_pos (show 256 * t.val + r.val < 16384 by omega)).symm
    rw [← V_o₁ m c]; blk_ext [iblk, idx2 t h, rowAt]
  · refine Eq.trans ?_ (dif_neg (show ¬ 256 * t.val + r.val < 16384 by omega)).symm
    have e : iblk m c 2 t (ix3 (n0 := 1) (n1 := 256) (n2 := 512) 0 r j) = o₁ m c ⟨t.val - 64, by omega⟩ ⟨r.val, by omega⟩ j := by
      rw [← V_o₁ m c]; blk_ext [iblk, idx2' t h]
    refine e.trans (congrArg₂ (fun b r => o₁ m c b r j) (Fin.ext ?_) (Fin.ext ?_))
    · show t.val - 64 = (256 * t.val + r.val - 16384) / 256; omega
    · show r.val = (256 * t.val + r.val - 16384) % 256; omega
theorem o₂_block (t : Fin cfg0.N) (r : Fin 256) (j : Fin 512) :
    iblk m c 3 t (ix3 (n0 := 1) (n1 := 256) (n2 := 512) 0 r j) = inOrder (o₂ m c) (rowAt t r) j := by
  have ht : t.val < 66 := t.isLt
  unfold inOrder
  by_cases h : t.val < 64
  · refine Eq.trans ?_ (dif_pos (show 256 * t.val + r.val < 16384 by omega)).symm
    rw [← V_o₂ m c]; blk_ext [iblk, idx3 t h, rowAt]
  · refine Eq.trans ?_ (dif_neg (show ¬ 256 * t.val + r.val < 16384 by omega)).symm
    have e : iblk m c 3 t (ix3 (n0 := 1) (n1 := 256) (n2 := 512) 0 r j) = o₂ m c ⟨t.val - 64, by omega⟩ ⟨r.val, by omega⟩ j := by
      rw [← V_o₂ m c]; blk_ext [iblk, idx3' t h]
    refine e.trans (congrArg₂ (fun b r => o₂ m c b r j) (Fin.ext ?_) (Fin.ext ?_))
    · show t.val - 64 = (256 * t.val + r.val - 16384) / 256; omega
    · show r.val = (256 * t.val + r.val - 16384) % 256; omega
theorem gates_block (t : Fin cfg0.N) (i : Fin 4) (r : Fin 256) (k : Fin 1024) :
    gates (X0_6 m c t) i (ix2 (n0 := 256) (n1 := 1024) r k) = pr m c (rowAt t r) ⟨1024 * i.val + k.val, by omega⟩ := by
  rw [← V_pr m c]
  unfold gates X0_6 Pipeline.Window.fill
  rw [dif_pos (moved0_6 t _)]
  blk_ext [iblk, idx6 t, rowAt]
theorem z_block (t : Fin cfg0.N) (r : Fin 256) (j : Fin 512) :
    iblk m c 7 t (ix2 (n0 := 256) (n1 := 512) r j) = pr m c (rowAt t r) ⟨7168 + j.val, by omega⟩ := by
  rw [← V_pr m c]; blk_ext [iblk, idx7 t, rowAt]
theorem mod_block (t : Fin cfg0.N) (r : Fin 256) (k : Fin 1024) :
    modRow (iblk m c 8 t) (ix3 (n0 := 1) (n1 := 1) (n2 := 1024) 0 0 k) = gateRow (mx m c) (mc m c) (rowAt t r) k := by
  rw [← V_gate m c (groupAt t) k (rowAt t r) (by show t.val = (256 * t.val + r.val) / 256; omega)]
  unfold modRow
  blk_ext [iblk, idx8 t, groupAt]
theorem weights_block (t : Fin cfg0.N) (i : Fin 4) (j : Fin 512) (k : Fin 1024) :
    weights (iblk m c 9 t) i (ix3 (n0 := 1) (n1 := 512) (n2 := 1024) 0 j k) = bp m c i j k := by
  rw [← V_bp m c]
  unfold weights
  blk_ext [iblk, idx9 t]
theorem wo_block (t : Fin cfg0.N) (j k : Fin 1024) :
    iblk m c 10 t (ix2 (n0 := 1024) (n1 := 1024) j k) = wo m c j k := by
  rw [← V_wo m c]; blk_ext [iblk, idx10 t]
theorem gn_block (t : Fin cfg0.N) (j : Fin 512) :
    iblk m c 11 t (ix2 (n0 := 1) (n1 := 512) 0 j) = gn m c ⟨j.val % 64, by omega⟩ := by
  rw [← V_gn m c]; blk_ext [iblk, idx11 t]
theorem sum_block (t : Fin cfg0.N) (i j : Fin 512) :
    iblk m c 12 t (ix2 (n0 := 512) (n1 := 512) i j) = (if i.val / 64 = j.val / 64 then (1 : EReal) else 0) := by
  rw [← V_sum m c]; blk_ext [iblk, idx12 t]
theorem lg_block (t : Fin cfg0.N) (k : Fin 1024) : iblk m c 13 t (ix2 (n0 := 1) (n1 := 1024) 0 k) = lg m c k := by
  rw [← V_lg m c]; blk_ext [iblk, idx13 t]
theorem lb_block (t : Fin cfg0.N) (k : Fin 1024) : iblk m c 14 t (ix2 (n0 := 1) (n1 := 1024) 0 k) = lb m c k := by
  rw [← V_lb m c]; blk_ext [iblk, idx14 t]

/-! ## The array -/

/-- A row of the recurrence's outputs is a row of the arguments. -/
theorem real_row (h₁ : ∀ b r j, ∃ x : ℝ, o₁ m c b r j = (x : EReal)) (h₂ : ∀ b r j, ∃ x : ℝ, o₂ m c b r j = (x : EReal))
    (R : Fin 16896) (j : Fin 512) : ∃ x : ℝ, inOrder (o₁ m c) R j + inOrder (o₂ m c) R j = (x : EReal) := by
  have e (y : Fin 2 → Fin 8448 → Fin 512 → EReal) (hy : ∀ b r j, ∃ x : ℝ, y b r j = (x : EReal)) : ∃ x : ℝ, inOrder y R j = (x : EReal) := by
    unfold inOrder; split_ifs <;> exact hy _ _ _
  obtain ⟨a, ha⟩ := e _ h₁
  obtain ⟨b, hb⟩ := e _ h₂
  exact ⟨a + b, by rw [ha, hb, ← EReal.coe_add]⟩

section

variable (h₁ : ∀ b r j, ∃ x : ℝ, o₁ m c b r j = (x : EReal)) (h₂ : ∀ b r j, ∃ x : ℝ, o₂ m c b r j = (x : EReal))
include h₁ h₂

theorem yb_block (t : Fin cfg0.N) (r : Fin 256) (j : Fin 512) :
    k0_pay2 (iblk m c 2 t) (iblk m c 3 t) (iblk m c 12 t) (iblk m c 12 t) (iblk m c 7 t) (iblk m c 11 t) (ix2 (n0 := 256) (n1 := 512) r j)
      = yb (o₁ m c) (o₂ m c) (pr m c) (gn m c) (rowAt t r) j := by
  refine (pay2_apply _ _ _ _ _ r (fun j => ?_) (sum_block m c t) j).trans ?_
  · rw [o₁_block, o₂_block]; exact real_row m c h₁ h₂ _ _
  · simp only [o₁_block, o₂_block, gn_block, z_block]
    rfl

theorem out_apply (t : Fin cfg0.N) (r : Fin 256) (k : Fin 1024) :
    outsAt0 m c t (ix2 (n0 := 256) (n1 := 1024) r k)
      = merged (tk m c) (ya m c) (yc m c) (yd m c) (o₁ m c) (o₂ m c) (pr m c) (mx m c) (mc m c) (bp m c) (wo m c) (gn m c)
          (lg m c) (lb m c) (rowAt t r) k := by
  rw [out_eq, pay1_apply]
  simp only [pay3_apply, gates_block, weights_block, tk_block, ya_block, yc_block, yd_block, mod_block m c t r, wo_block, lg_block, lb_block,
    yb_block m c h₁ h₂]
  unfold merged
  congr 1

/-- The array the kernel returns. -/
theorem array : (dats m 0 c).arrAt 15 cfg0.N
    = fun y => merged (tk m c) (ya m c) (yc m c) (yd m c) (o₁ m c) (o₂ m c) (pr m c) (mx m c) (mc m c) (bp m c) (wo m c) (gn m c)
          (lg m c) (lb m c) (y 0) (y 1) := by
  refine (dats m 0 c).arrAt_eq_of_covers 15 _ (by decide +kernel) fun t hf y => ?_
  obtain ⟨r, k, rfl⟩ : ∃ (r : Fin 256) (k : Fin 1024), y = ix2 (n0 := 256) (n1 := 1024) r k :=
    ⟨y 0, y 1, by funext a; fin_cases a <;> rfl⟩
  have e : ((cfg0.win 15).blk t).view.emb (ix2 (n0 := 256) (n1 := 1024) r k) = ix2 (n0 := 16896) (n1 := 1024) (rowAt t r) k := by
    blk_ext [idx15 t, rowAt]
  rw [e]
  refine Eq.trans ?_ (out_apply m c h₁ h₂ t r k)
  blk_simp
  rw [after0_15]

end

end Cert.Proof.MergeValue

end
-- ==== Proof.MergeRef.lean ====
/-
  What the reference of the merge computes, element by element: the recurrence's branch, the four branches' products and their
  gated sum, the residual and its layer norm.
-/
module

public import proofs.«01_k».proof.Proof.Gen.Reference3Ideal.Run
public import proofs.«01_k».proof.Proof.MergeSpec
public import proofs.«01_k».proof.Proof.ProjRef

@[expose] public section

set_option maxRecDepth 100000

noncomputable section

namespace Cert.Proof.MergeRef

open Cert.Reference3Ideal Cert.Reference3Ideal.Gen
open Idealize.ShloMosaic Idealize.ShloMosaic.TcCoe
open Cert.Proof.MergeSpec (inOrder headMean rms sig yb branch total gateRow resid merged)

/-! ## The reference in its steps -/

/-- The sum of the recurrence's two outputs, in heads. -/
def heads (A2 A3 : FVec Ideal S2x8448x512 .f32) : FVec Ideal S2x8448x8x64 .f32 :=
  shapeCast _ (addf A2 A3) shapeCasts_S2x8448x512_S2x8448x8x64

/-- The mean squares of its heads. -/
def headMeans (O : FVec Ideal S2x8448x8x64 .f32) : FVec Ideal S2x8448x8x1 .f32 :=
  Host.divf (broadcastInDim S2x8448x8x1 ![0, 1, 2] bcast_S2x8448x8_S2x8448x8x1_0_1_2 (Host.reduceAdd (mulf O O) (constant S_ .f32
    0x00000000#32) reducesTo_S2x8448x8x64_S2x8448x8_d3 h_S_)) (broadcastInDim S2x8448x8x1 ![] bcast_S_S2x8448x8x1 (constant S_ .f32
    0x42800000#32))

/-- The heads, normalized and weighted. -/
def norms (O : FVec Ideal S2x8448x8x64 .f32) (A11 : FVec Ideal S64 .f32) : FVec Ideal S2x8448x8x64 .f32 :=
  mulf (mulf O (broadcastInDim S2x8448x8x64 ![0, 1, 2, 3] bcast_S2x8448x8x1_S2x8448x8x64_0_1_2_3 (Host.rsqrt (addf (headMeans O)
    (broadcastInDim S2x8448x8x1 ![] bcast_S_S2x8448x8x1 (constant S_ .f32 0x358637BD#32)))))) (broadcastInDim S2x8448x8x64
    ![0, 1, 2, 3] bcast_S1x1x1x64_S2x8448x8x64_0_1_2_3 (broadcastInDim S1x1x1x64 ![3] bcast_S64_S1x1x1x64_3 A11))

/-- The rows in the tokens' order. -/
def ordered (N : FVec Ideal S2x8448x8x64 .f32) : FVec Ideal S16896x8x64 .f32 :=
  concatenate S16896x8x64 0 [
    ⟨S16384x8x64, (shapeCast _ (extractStridedSlice S2x8192x8x64 ![0, 256, 0, 0] N slices_S2x8448x8x64_S2x8192x8x64_0_256_0_0)
      shapeCasts_S2x8192x8x64_S16384x8x64)⟩,
    ⟨S512x8x64, (shapeCast _ (extractStridedSlice S2x256x8x64 ![0, 0, 0, 0] N slices_S2x8448x8x64_S2x256x8x64_0_0_0_0)
      shapeCasts_S2x256x8x64_S512x8x64)⟩] concatenates_S16384x8x64_S512x8x64_S16896x8x64_d0

/-- The projection's columns that gate the recurrence's branch. -/
def zs (A6 : FVec Ideal S16896x10752 .bf16) : FVec Ideal S16896x8x64 .f32 :=
  shapeCast _ (extractStridedSlice S16896x512 ![0, 7168] (extf .f32 A6 bitsLt_bf16_f32) slices_S16896x10752_S16896x512_0_7168)
    shapeCasts_S16896x512_S16896x8x64

/-- Their gate. -/
def swish (Z : FVec Ideal S16896x8x64 .f32) : FVec Ideal S16896x8x64 .f32 :=
  mulf Z (Host.divf (broadcastInDim S16896x8x64 ![] bcast_S_S16896x8x64 (constant S_ .f32 0x3F800000#32)) (addf (broadcastInDim
    S16896x8x64 ![] bcast_S_S16896x8x64 (constant S_ .f32 0x3F800000#32)) (Host.exp (Host.negf Z))))

/-- The recurrence's branch. -/
def gated (N G : FVec Ideal S16896x8x64 .f32) : FVec Ideal S16896x512 .f32 :=
  shapeCast _ (mulf N G) shapeCasts_S16896x8x64_S16896x512

/-- The four branches. -/
def stack (A1 Y A4 A5 : FVec Ideal S16896x512 .f32) : FVec Ideal S16896x4x512 .f32 :=
  concatenate S16896x4x512 1 [
    ⟨S16896x1x512, broadcastInDim S16896x1x512 ![0, 2] bcast_S16896x512_S16896x1x512_0_2 A1⟩,
    ⟨S16896x1x512, broadcastInDim S16896x1x512 ![0, 2] bcast_S16896x512_S16896x1x512_0_2 Y⟩,
    ⟨S16896x1x512, broadcastInDim S16896x1x512 ![0, 2] bcast_S16896x512_S16896x1x512_0_2 A4⟩,
    ⟨S16896x1x512, broadcastInDim S16896x1x512 ![0, 2] bcast_S16896x512_S16896x1x512_0_2 A5⟩]
    concatenates_S16896x1x512_S16896x1x512_S16896x1x512_S16896x1x512_S16896x4x512_d1

/-- The branches' gates. -/
def gates (A6 : FVec Ideal S16896x10752 .bf16) : FVec Ideal S16896x4x1024 .f32 :=
  Host.divf (broadcastInDim S16896x4x1024 ![] bcast_S_S16896x4x1024 (constant S_ .f32 0x3F800000#32)) (addf (broadcastInDim
    S16896x4x1024 ![] bcast_S_S16896x4x1024 (constant S_ .f32 0x3F800000#32)) (Host.exp (Host.negf (shapeCast _ (extractStridedSlice
    S16896x4096 ![0, 0] (extf .f32 A6 bitsLt_bf16_f32) slices_S16896x10752_S16896x4096_0_0) shapeCasts_S16896x4096_S16896x4x1024))))

/-- The branches against their weights. -/
def products (A9 : FVec Ideal S4x512x1024 .f32) (S : FVec Ideal S16896x4x512 .f32) : FVec Ideal S16896x4x1024 .f32 :=
  transpose S16896x4x1024 [2, 0, 1] (Host.dotGeneral dot_S4x512x1024_S16896x4x512_S4x1024x16896_1_2_2_0_0_1 none A9 S)
    transposes_S4x1024x16896_S16896x4x1024_2_0_1

/-- Their gated sum. -/
def sums (G P : FVec Ideal S16896x4x1024 .f32) : FVec Ideal S16896x1024 .f32 :=
  Host.reduceAdd (mulf G P) (constant S_ .f32 0x00000000#32) reducesTo_S16896x4x1024_S16896x1024_d1 h_S_

/-- The gate on the merge, of each row. -/
def gateRows (A7 : FVec Ideal S2x6144 .f32) (A8 : FVec Ideal S6144 .f32) : FVec Ideal S16896x1024 .f32 :=
  concatenate S16896x1024 0 [
    ⟨S16384x1024, (shapeCast _ (broadcastInDim S2x8192x1024 ![0, 1, 2] bcast_S2x1x1024_S2x8192x1024_0_1_2 (broadcastInDim S2x1x1024
      ![0, 2] bcast_S2x1024_S2x1x1024_0_2 (extractStridedSlice S2x1024 ![0, 2048] A7 slices_S2x6144_S2x1024_0_2048)))
      shapeCasts_S2x8192x1024_S16384x1024)⟩,
    ⟨S512x1024, (broadcastInDim S512x1024 ![0, 1] bcast_S1x1024_S512x1024_0_1 (broadcastInDim S1x1024 ![1] bcast_S1024_S1x1024_1
      (extractStridedSlice S1024 ![2048] A8 slices_S6144_S1024_2048)))⟩] concatenates_S16384x1024_S512x1024_S16896x1024_d0

/-- The residual sum. -/
def resids (A0 : FVec Ideal S16896x1024 .f32) (G T : FVec Ideal S16896x1024 .f32) (A10 : FVec Ideal S1024x1024 .f32) :
    FVec Ideal S16896x1024 .f32 :=
  addf (mulf (broadcastInDim S16896x1024 ![] bcast_S_S16896x1024 (constant S_ .f32 0x3FD744FD#32)) A0)
    (mulf G (Host.dotGeneral dot_S16896x1024_S1024x1024_S16896x1024_1_0_0_1_n_n none T A10))

/-- The rows' means. -/
def means (X : FVec Ideal S16896x1024 .f32) : FVec Ideal S16896x1 .f32 :=
  Host.divf (broadcastInDim S16896x1 ![0] bcast_S16896_S16896x1_0 (Host.reduceAdd X (constant S_ .f32 0x00000000#32)
    reducesTo_S16896x1024_S16896_d1 h_S_)) (broadcastInDim S16896x1 ![] bcast_S_S16896x1 (constant S_ .f32 0x44800000#32))

/-- The rows less their means. -/
def devs (X : FVec Ideal S16896x1024 .f32) : FVec Ideal S16896x1024 .f32 :=
  subf X (broadcastInDim S16896x1024 ![0, 1] bcast_S16896x1_S16896x1024_0_1 (means X))

/-- The layer norm. -/
def layerNorm (X : FVec Ideal S16896x1024 .f32) (A12 A13 : FVec Ideal S1024 .f32) : FVec Ideal S16896x1024 .f32 :=
  addf (mulf (mulf (devs X) (broadcastInDim S16896x1024 ![0, 1] bcast_S16896x1_S16896x1024_0_1 (Host.rsqrt (addf (means (mulf (devs X)
    (devs X))) (broadcastInDim S16896x1 ![] bcast_S_S16896x1 (constant S_ .f32 0x3727C5AC#32)))))) (broadcastInDim S16896x1024 ![0, 1]
    bcast_S1x1024_S16896x1024_0_1 (broadcastInDim S1x1024 ![1] bcast_S1024_S1x1024_1 A12))) (broadcastInDim S16896x1024 ![0, 1]
    bcast_S1x1024_S16896x1024_0_1 (broadcastInDim S1x1024 ![1] bcast_S1024_S1x1024_1 A13))

section

variable (A0 : FVec Ideal S16896x1024 .f32) (A1 : FVec Ideal S16896x512 .f32) (A2 A3 : FVec Ideal S2x8448x512 .f32)
  (A4 A5 : FVec Ideal S16896x512 .f32) (A6 : FVec Ideal S16896x10752 .bf16) (A7 : FVec Ideal S2x6144 .f32) (A8 : FVec Ideal S6144 .f32)
  (A9 : FVec Ideal S4x512x1024 .f32) (A10 : FVec Ideal S1024x1024 .f32) (A11 : FVec Ideal S64 .f32) (A12 A13 : FVec Ideal S1024 .f32)

/-- The recurrence's branch, of the arguments. -/
def branchB : FVec Ideal S16896x512 .f32 := gated (ordered (norms (heads A2 A3) A11)) (swish (zs A6))

/-- The gated sum, of the arguments. -/
def mix : FVec Ideal S16896x1024 .f32 := sums (gates A6) (products A9 (stack A1 (branchB A2 A3 A6 A11) A4 A5))

/-- The result, of the arguments. -/
def result : FVec Ideal S16896x1024 .f32 :=
  layerNorm (resids A0 (gateRows A7 A8) (mix A1 A2 A3 A4 A5 A6 A9 A11) A10) A12 A13

end

/-- The reference's result is its steps'. -/
theorem steps (m : (ℓ : Loc nD τ sig) → Buf (Elt Ideal) ℓ) (c : Dev nD) :
    Cert.Reference3Ideal.Value.res_main_v83 (F := Ideal) m c
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  rfl

/-! ## Their elements -/

theorem heads_apply (A2 A3 : FVec Ideal S2x8448x512 .f32) (b : Fin 2) (r : Fin 8448) (h : Fin 8) (x : Fin 64) :
    heads A2 A3 (ix4 (n0 := 2) (n1 := 8448) (n2 := 8) (n3 := 64) b r h x)
      = A2 (ix3 (n0 := 2) (n1 := 8448) (n2 := 512) b r ⟨h.val * 64 + x.val, by omega⟩)
        + A3 (ix3 (n0 := 2) (n1 := 8448) (n2 := 512) b r ⟨h.val * 64 + x.val, by omega⟩) := by
  pointwise [heads]

theorem norms_apply (O : FVec Ideal S2x8448x8x64 .f32) (A11 : FVec Ideal S64 .f32) (b : Fin 2) (r : Fin 8448) (h : Fin 8) (x : Fin 64) :
    norms O A11 (ix4 (n0 := 2) (n1 := 8448) (n2 := 8) (n3 := 64) b r h x)
      = O (ix4 (n0 := 2) (n1 := 8448) (n2 := 8) (n3 := 64) b r h x)
        * Ideal.rsqrt (Ideal.div (∑ y : Fin 64, O (ix4 (n0 := 2) (n1 := 8448) (n2 := 8) (n3 := 64) b r h y)
              * O (ix4 (n0 := 2) (n1 := 8448) (n2 := 8) (n3 := 64) b r h y)) (Ideal.ofBits FTy.f32 0x42800000#32)
            + Ideal.ofBits FTy.f32 0x358637BD#32)
        * A11 (ix1 (n0 := 64) x) := by
  pointwise [norms, headMeans]

theorem ordered_apply (N : FVec Ideal S2x8448x8x64 .f32) (R : Fin 16896) (h : Fin 8) (x : Fin 64) :
    ordered N (ix3 (n0 := 16896) (n1 := 8) (n2 := 64) R h x)
      = if e : R.val < 16384 then
          N (ix4 (n0 := 2) (n1 := 8448) (n2 := 8) (n3 := 64) ⟨R.val / 8192, by omega⟩ ⟨256 + R.val % 8192, by omega⟩ h x)
        else N (ix4 (n0 := 2) (n1 := 8448) (n2 := 8) (n3 := 64) ⟨(R.val - 16384) / 256, by omega⟩ ⟨(R.val - 16384) % 256, by omega⟩ h x) := by
  pointwise [ordered]

theorem swish_apply (A6 : FVec Ideal S16896x10752 .bf16) (R : Fin 16896) (h : Fin 8) (x : Fin 64) :
    swish (zs A6) (ix3 (n0 := 16896) (n1 := 8) (n2 := 64) R h x)
      = A6 (ix2 (n0 := 16896) (n1 := 10752) R ⟨7168 + (h.val * 64 + x.val), by omega⟩)
        * sig (A6 (ix2 (n0 := 16896) (n1 := 10752) R ⟨7168 + (h.val * 64 + x.val), by omega⟩)) := by
  pointwise [swish, zs]
  rfl

theorem gated_apply (N G : FVec Ideal S16896x8x64 .f32) (R : Fin 16896) (j : Fin 512) :
    gated N G (ix2 (n0 := 16896) (n1 := 512) R j)
      = N (ix3 (n0 := 16896) (n1 := 8) (n2 := 64) R ⟨j.val / 64, by omega⟩ ⟨j.val % 64, by omega⟩)
        * G (ix3 (n0 := 16896) (n1 := 8) (n2 := 64) R ⟨j.val / 64, by omega⟩ ⟨j.val % 64, by omega⟩) := by
  pointwise [gated]

theorem stack_apply (A1 Y A4 A5 : FVec Ideal S16896x512 .f32) (R : Fin 16896) (i : Fin 4) (j : Fin 512) :
    stack A1 Y A4 A5 (ix3 (n0 := 16896) (n1 := 4) (n2 := 512) R i j) = (![A1, Y, A4, A5] i) (ix2 (n0 := 16896) (n1 := 512) R j) := by
  fin_cases i
  all_goals
    unfold stack
    pointwise

theorem gates_apply (A6 : FVec Ideal S16896x10752 .bf16) (R : Fin 16896) (i : Fin 4) (k : Fin 1024) :
    gates A6 (ix3 (n0 := 16896) (n1 := 4) (n2 := 1024) R i k)
      = sig (A6 (ix2 (n0 := 16896) (n1 := 10752) R ⟨i.val * 1024 + k.val, by omega⟩)) := by
  pointwise [gates]
  rfl

theorem products_apply (A9 : FVec Ideal S4x512x1024 .f32) (S : FVec Ideal S16896x4x512 .f32) (R : Fin 16896) (i : Fin 4) (k : Fin 1024) :
    products A9 S (ix3 (n0 := 16896) (n1 := 4) (n2 := 1024) R i k)
      = ∑ j, A9 (ix3 (n0 := 4) (n1 := 512) (n2 := 1024) i j k) * S (ix3 (n0 := 16896) (n1 := 4) (n2 := 512) R i j) := by
  pointwise [products]

theorem sums_apply (G P : FVec Ideal S16896x4x1024 .f32) (R : Fin 16896) (k : Fin 1024) :
    sums G P (ix2 (n0 := 16896) (n1 := 1024) R k)
      = ∑ i : Fin 4, G (ix3 (n0 := 16896) (n1 := 4) (n2 := 1024) R i k) * P (ix3 (n0 := 16896) (n1 := 4) (n2 := 1024) R i k) := by
  pointwise [sums]

theorem gateRows_apply (A7 : FVec Ideal S2x6144 .f32) (A8 : FVec Ideal S6144 .f32) (R : Fin 16896) (k : Fin 1024) :
    gateRows A7 A8 (ix2 (n0 := 16896) (n1 := 1024) R k)
      = gateRow (fun b n => A7 (ix2 (n0 := 2) (n1 := 6144) b n)) (fun n => A8 (ix1 (n0 := 6144) n)) R k := by
  pointwise [gateRows]
  rfl

theorem resids_apply (A0 G T : FVec Ideal S16896x1024 .f32) (A10 : FVec Ideal S1024x1024 .f32) (R : Fin 16896) (k : Fin 1024) :
    resids A0 G T A10 (ix2 (n0 := 16896) (n1 := 1024) R k)
      = Ideal.ofBits FTy.f32 0x3FD744FD#32 * A0 (ix2 (n0 := 16896) (n1 := 1024) R k)
        + G (ix2 (n0 := 16896) (n1 := 1024) R k)
          * ∑ j, T (ix2 (n0 := 16896) (n1 := 1024) R j) * A10 (ix2 (n0 := 1024) (n1 := 1024) j k) := by
  pointwise [resids]

theorem layerNorm_apply (X : FVec Ideal S16896x1024 .f32) (A12 A13 : FVec Ideal S1024 .f32) (R : Fin 16896) (k : Fin 1024) :
    layerNorm X A12 A13 (ix2 (n0 := 16896) (n1 := 1024) R k)
      = ProjSpec.lnRow (fun k => X (ix2 (n0 := 16896) (n1 := 1024) R k)) (fun k => A12 (ix1 (n0 := 1024) k))
          (fun k => A13 (ix1 (n0 := 1024) k)) k := by
  pointwise [layerNorm, devs, means]
  rfl

/-! ## The result -/

/-- A row of the normalized heads. -/
theorem norms_row (A2 A3 : FVec Ideal S2x8448x512 .f32) (A11 : FVec Ideal S64 .f32) (b : Fin 2) (r : Fin 8448) (j : Fin 512) :
    norms (heads A2 A3) A11 (ix4 (n0 := 2) (n1 := 8448) (n2 := 8) (n3 := 64) b r ⟨j.val / 64, by omega⟩ ⟨j.val % 64, by omega⟩)
      = rms (fun n => A11 (ix1 (n0 := 64) n))
          (fun j => A2 (ix3 (n0 := 2) (n1 := 8448) (n2 := 512) b r j) + A3 (ix3 (n0 := 2) (n1 := 8448) (n2 := 512) b r j)) j := by
  have e : (⟨j.val / 64 * 64 + j.val % 64, by omega⟩ : Fin 512) = j := Fin.ext (by show j.val / 64 * 64 + j.val % 64 = j.val; omega)
  have e' (y : Fin 64) : (⟨j.val / 64 * 64 + y.val, by omega⟩ : Fin 512) = ⟨64 * (j.val / 64) + y.val, by omega⟩ :=
    Fin.ext (by show j.val / 64 * 64 + y.val = 64 * (j.val / 64) + y.val; omega)
  rw [norms_apply]
  simp only [heads_apply, e]
  simp only [e']
  rfl

section

variable (A0 : FVec Ideal S16896x1024 .f32) (A1 : FVec Ideal S16896x512 .f32) (A2 A3 : FVec Ideal S2x8448x512 .f32)
  (A4 A5 : FVec Ideal S16896x512 .f32) (A6 : FVec Ideal S16896x10752 .bf16) (A7 : FVec Ideal S2x6144 .f32) (A8 : FVec Ideal S6144 .f32)
  (A9 : FVec Ideal S4x512x1024 .f32) (A10 : FVec Ideal S1024x1024 .f32) (A11 : FVec Ideal S64 .f32) (A12 A13 : FVec Ideal S1024 .f32)

theorem branchB_apply (R : Fin 16896) (j : Fin 512) :
    branchB A2 A3 A6 A11 (ix2 (n0 := 16896) (n1 := 512) R j)
      = yb (fun b r j => A2 (ix3 (n0 := 2) (n1 := 8448) (n2 := 512) b r j)) (fun b r j => A3 (ix3 (n0 := 2) (n1 := 8448) (n2 := 512) b r j))
          (fun R n => A6 (ix2 (n0 := 16896) (n1 := 10752) R n)) (fun n => A11 (ix1 (n0 := 64) n)) R j := by
  have e : (⟨7168 + (j.val / 64 * 64 + j.val % 64), by omega⟩ : Fin 10752) = ⟨7168 + j.val, by omega⟩ :=
    Fin.ext (by show 7168 + (j.val / 64 * 64 + j.val % 64) = 7168 + j.val; omega)
  unfold branchB
  rw [gated_apply, swish_apply, ordered_apply]
  simp only [e]
  unfold yb
  refine congrArg (· * _) ?_
  by_cases h : R.val < 16384
  · refine (dif_pos h).trans ((norms_row _ _ _ _ _ _).trans (congrArg (fun o => rms _ o j) (funext fun j => ?_)))
    unfold inOrder; rw [dif_pos h, dif_pos h]
  · refine (dif_neg h).trans ((norms_row _ _ _ _ _ _).trans (congrArg (fun o => rms _ o j) (funext fun j => ?_)))
    unfold inOrder; rw [dif_neg h, dif_neg h]

theorem mix_apply (R : Fin 16896) (k : Fin 1024) :
    mix A1 A2 A3 A4 A5 A6 A9 A11 (ix2 (n0 := 16896) (n1 := 1024) R k)
      = total (fun R j => A1 (ix2 (n0 := 16896) (n1 := 512) R j)) (fun R j => A4 (ix2 (n0 := 16896) (n1 := 512) R j))
          (fun R j => A5 (ix2 (n0 := 16896) (n1 := 512) R j)) (fun b r j => A2 (ix3 (n0 := 2) (n1 := 8448) (n2 := 512) b r j))
          (fun b r j => A3 (ix3 (n0 := 2) (n1 := 8448) (n2 := 512) b r j)) (fun R n => A6 (ix2 (n0 := 16896) (n1 := 10752) R n))
          (fun i j k => A9 (ix3 (n0 := 4) (n1 := 512) (n2 := 1024) i j k)) (fun n => A11 (ix1 (n0 := 64) n)) R k := by
  unfold mix
  rw [sums_apply]
  simp only [gates_apply, products_apply, stack_apply]
  rw [Fin.sum_univ_four]
  unfold total branch
  simp only [← branchB_apply]
  refine congrArg₂ (· + ·) (congrArg₂ (· + ·) (congrArg₂ (· + ·) ?_ ?_) ?_) ?_
  · refine congrArg₂ (· * ·) (congrArg (fun n => sig (A6 (ix2 (n0 := 16896) (n1 := 10752) R n))) (Fin.ext ?_))
      (Finset.sum_congr rfl fun j _ => mul_comm _ _)
    show 0 * 1024 + k.val = k.val
    omega
  all_goals
    exact congrArg₂ (· * ·) rfl (Finset.sum_congr rfl fun j _ => mul_comm _ _)

theorem result_eq : result A0 A1 A2 A3 A4 A5 A6 A7 A8 A9 A10 A11 A12 A13
    = fun y => merged (fun R k => A0 (ix2 (n0 := 16896) (n1 := 1024) R k)) (fun R j => A1 (ix2 (n0 := 16896) (n1 := 512) R j))
        (fun R j => A4 (ix2 (n0 := 16896) (n1 := 512) R j)) (fun R j => A5 (ix2 (n0 := 16896) (n1 := 512) R j))
        (fun b r j => A2 (ix3 (n0 := 2) (n1 := 8448) (n2 := 512) b r j)) (fun b r j => A3 (ix3 (n0 := 2) (n1 := 8448) (n2 := 512) b r j))
        (fun R n => A6 (ix2 (n0 := 16896) (n1 := 10752) R n)) (fun b n => A7 (ix2 (n0 := 2) (n1 := 6144) b n))
        (fun n => A8 (ix1 (n0 := 6144) n)) (fun i j k => A9 (ix3 (n0 := 4) (n1 := 512) (n2 := 1024) i j k))
        (fun j k => A10 (ix2 (n0 := 1024) (n1 := 1024) j k)) (fun n => A11 (ix1 (n0 := 64) n))
        (fun k => A12 (ix1 (n0 := 1024) k)) (fun k => A13 (ix1 (n0 := 1024) k)) (y 0) (y 1) := by
  funext y
  obtain ⟨R, k, rfl⟩ : ∃ (R : Fin 16896) (k : Fin 1024), y = ix2 (n0 := 16896) (n1 := 1024) R k :=
    ⟨y 0, y 1, by funext a; fin_cases a <;> rfl⟩
  unfold result merged
  refine (layerNorm_apply _ _ _ R k).trans (ProjRef.lnRow_congr (fun k => ?_) (fun k => rfl) (fun k => rfl) k)
  rw [resids_apply, gateRows_apply]
  simp only [mix_apply]
  rfl

end

end Cert.Proof.MergeRef

end
-- ==== Proof.lean ====
/-
  The certificate: each claim about the differential attention, about the input projection and about the merge, put together from
  the modules that prove them.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.KernelFrame
public import proofs.«01_k».proof.Proof.KernelIdealFrame
public import proofs.«01_k».proof.Proof.Result
public import proofs.«01_k».proof.Proof.Finite
public import proofs.«01_k».proof.Proof.ProjFrame
public import proofs.«01_k».proof.Proof.ProjValue
public import proofs.«01_k».proof.Proof.ProjRef
public import proofs.«01_k».proof.Proof.MergeFinite
public import proofs.«01_k».proof.Proof.MergeValue
public import proofs.«01_k».proof.Proof.MergeRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and every counter ends at zero. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Under the precondition the kernel and the reference, at the ideal instance and on the same arguments, return the same array. -/
theorem algebraic : algebraic_KernelIdeal_ReferenceIdeal_pre_finite (hKernelIdeal := Cert.KernelIdeal.Gen.facts)
    (hReferenceIdeal := Cert.ReferenceIdeal.Gen.facts) (hPre_finite := Finite.facts) := by
  intro m g m' g' hpre hargs
  refine ⟨fun c => Cert.ReferenceIdeal.Value.res_main_v41 (F := Ideal) m' c, ?_, Cert.ReferenceIdeal.Value.run (F := Ideal) m' g'⟩
  refine (θ_run Cert.KernelIdeal.defs _ _).mono (fun r h c => ⟨(h.1 c).1.trans ?_, (h.1 c).2⟩) (KernelIdealFrame.run_all (F := Ideal) m g)
  obtain ⟨e0, e1, e2, e3, e4⟩ := hargs c
  obtain ⟨r0, r1, r2, lam, h3⟩ := @Finite.reals Finite.facts _ _ _ _ _ (hpre c)
  choose q h0 using r0
  choose k h1 using r1
  choose v h2 using r2
  refine Eq.trans ?_ (RefValue.result_eq m' c).symm
  refine (Result.array_eq m c (fun b i x => q (ix3 (n0 := 2) (n1 := 8192) (n2 := 512) b i x))
    (fun b j x => k (ix3 (n0 := 2) (n1 := 8448) (n2 := 512) b j x)) (fun b j x => v (ix3 (n0 := 2) (n1 := 8448) (n2 := 512) b j x)) lam
    (fun _ _ _ => h0 _) (fun _ _ _ => h1 _) (fun _ _ _ => h2 _) h3).trans ?_
  rw [← e0, ← e1, ← e2, ← e3, ← e4]

/-- The input projection's reference runs, its arguments end unchanged, and every counter ends at zero. -/
theorem reference2_frame : quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- The input projection's kernel and its reference, at the ideal instance and on the same arguments, return the same two arrays. -/
theorem algebraic2 : algebraic_Kernel2Ideal_Reference2Ideal (hKernel2Ideal := Cert.Kernel2Ideal.Gen.facts)
    (hReference2Ideal := Cert.Reference2Ideal.Gen.facts) := by
  intro m g m' g' _ hargs
  refine ⟨fun c => Cert.Reference2Ideal.Value.res_main_v78 (F := Ideal) m' c,
    fun c => Cert.Reference2Ideal.Value.res_main_v77 (F := Ideal) m' c, ?_, Cert.Reference2Ideal.Value.run (F := Ideal) m' g'⟩
  refine (θ_run Cert.Kernel2Ideal.defs _ _).mono
    (fun r h c => ⟨(h.1 c).1.1.trans ?_, (h.1 c).1.2.trans ?_, (h.1 c).2⟩) (ProjIdealFrame.run_all (F := Ideal) m g)
  · obtain ⟨e0, e1, e2, e3, e4⟩ := hargs c
    refine (ProjValue.proj_array m c).trans (Eq.trans ?_ (ProjRef.main_steps m' c).symm)
    rw [e0, e1, e2, e3, e4]
    exact (ProjRef.mains_eq _ _ _ _ _).symm
  · obtain ⟨e0, e1, e2, e3, e4⟩ := hargs c
    refine (ProjValue.decay_array m c).trans (Eq.trans ?_ (ProjRef.decay_steps m' c).symm)
    rw [e0, e1, e2, e3, e4]
    exact (ProjRef.decays_eq _ _ _ _ _).symm

/-- The merge's reference runs, its arguments end unchanged, and every counter ends at zero. -/
theorem reference3_frame : quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

set_option maxHeartbeats 2000000 in
/-- Under its precondition the merge's kernel and its reference, at the ideal instance and on the same arguments, return the same
array. -/
theorem algebraic3 : algebraic_Kernel3Ideal_Reference3Ideal_pre_finite3 (hKernel3Ideal := Cert.Kernel3Ideal.Gen.facts)
    (hReference3Ideal := Cert.Reference3Ideal.Gen.facts) (hPre_finite3 := MergeFinite.facts) := by
  intro m g m' g' hpre hargs
  refine ⟨fun c => Cert.Reference3Ideal.Value.res_main_v83 (F := Ideal) m' c, ?_, Cert.Reference3Ideal.Value.run (F := Ideal) m' g'⟩
  refine (θ_run Cert.Kernel3Ideal.defs _ _).mono (fun r h c => ⟨(h c).1.trans ?_, (h c).2⟩)
    (Cert.Kernel3Ideal.Value.run_blocks (F := Ideal) m g)
  obtain ⟨e0, e1, e2, e3, e4, e5, e6, e7, e8, e9, e10, e11, e12, e13⟩ := hargs c
  obtain ⟨r2, r3⟩ := @MergeFinite.reals MergeFinite.facts _ _ _ _ _ _ _ _ _ _ _ _ _ _ (hpre c)
  refine (MergeValue.array m c (fun _ _ _ => r2 _) (fun _ _ _ => r3 _)).trans (Eq.trans ?_ (MergeRef.steps m' c).symm)
  rw [e0, e1, e2, e3, e4, e5, e6, e7, e8, e9, e10, e11, e12, e13]
  exact (MergeRef.result_eq _ _ _ _ _ _ _ _ _ _ _ _ _ _).symm

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Finite.facts, MergeFinite.facts,
    fun m g _ => KernelBody.frame m g, fun m g _ => KernelIdealFrame.frame m g, fun m g _ => KernelIdealFrame.frame m g,
    reference_frame, fun m g _ => reference_frame m g trivial,
    fun m g _ => ProjBody.frame m g, fun m g _ => ProjIdealFrame.frame m g, reference2_frame,
    fun m g _ => Cert.Kernel3.Gen.frame m g, fun m g _ => Cert.Kernel3Ideal.Gen.frame m g, fun m g _ => Cert.Kernel3Ideal.Gen.frame m g,
    reference3_frame, fun m g _ => reference3_frame m g trivial,
    IdealRules.named_const.statement Cert.KernelIdeal.κ "q_scale" .f32 0x3E38AA3B#32 (((8 * (Real.log 2))⁻¹ : ℝ) : EReal) rfl,
    algebraic, trivial, algebraic2, trivial, algebraic3⟩

end Cert.Proof

end
